-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Quantize (m : (ℓ : Loc Cert.Quantize.nD Cert.Quantize.τ Cert.Quantize.sig) → Buf (Elt Bits) ℓ) : Prop :=
  True

def Pre_QuantizeIdeal (m : (ℓ : Loc Cert.QuantizeIdeal.nD Cert.QuantizeIdeal.τ Cert.QuantizeIdeal.sig) → Buf (Elt Ideal) ℓ) : Prop :=
  True

def Pre_QuantizeIdeal_finite [hPre_finite : Cert.Pre_finite.Facts] (m : (ℓ : Loc Cert.QuantizeIdeal.nD Cert.QuantizeIdeal.τ Cert.QuantizeIdeal.sig) → Buf (Elt Ideal) ℓ) : Prop :=
  ∀ c : Dev Cert.QuantizeIdeal.nD,
    (Cert.Pre_finite.fn (F := Ideal) (m ((c.tc : Thread Cert.QuantizeIdeal.nD Cert.QuantizeIdeal.τ).loc Cert.QuantizeIdeal.main_arg0)) (m ((c.tc : Thread Cert.QuantizeIdeal.nD Cert.QuantizeIdeal.τ).loc Cert.QuantizeIdeal.main_arg1)) (m ((c.tc : Thread Cert.QuantizeIdeal.nD Cert.QuantizeIdeal.τ).loc Cert.QuantizeIdeal.main_arg2))) = (fun _ => 1#1)

def Pre_BlocksIdeal (m : (ℓ : Loc Cert.BlocksIdeal.nD Cert.BlocksIdeal.τ Cert.BlocksIdeal.sig) → Buf (Elt Ideal) ℓ) : Prop :=
  True

def Pre_BlocksIdeal_finite [hPre_finite : Cert.Pre_finite.Facts] (m : (ℓ : Loc Cert.BlocksIdeal.nD Cert.BlocksIdeal.τ Cert.BlocksIdeal.sig) → Buf (Elt Ideal) ℓ) : Prop :=
  ∀ c : Dev Cert.BlocksIdeal.nD,
    (Cert.Pre_finite.fn (F := Ideal) (m ((c.tc : Thread Cert.BlocksIdeal.nD Cert.BlocksIdeal.τ).loc Cert.BlocksIdeal.main_arg0)) (m ((c.tc : Thread Cert.BlocksIdeal.nD Cert.BlocksIdeal.τ).loc Cert.BlocksIdeal.main_arg1)) (m ((c.tc : Thread Cert.BlocksIdeal.nD Cert.BlocksIdeal.τ).loc Cert.BlocksIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Quantize [hQuantize : Cert.Quantize.Facts] : Prop :=
  ∀ (m : (ℓ : Loc Cert.Quantize.nD Cert.Quantize.τ Cert.Quantize.sig) → Buf (Elt Bits) ℓ) (g : Dev Cert.Quantize.nD → PrngReg), Pre_Quantize m →
    θ_run (Cert.Quantize.defs (F := Bits)) (onTc (τ := Cert.Quantize.τ) (Cert.Quantize.main (F := Bits))) ⟨m, fun _ => 0, g⟩ (fun r => (∀ c : Dev Cert.Quantize.nD,
      r.2.mem ((c.tc : Thread Cert.Quantize.nD Cert.Quantize.τ).loc Cert.Quantize.main_arg0) = m ((c.tc : Thread Cert.Quantize.nD Cert.Quantize.τ).loc Cert.Quantize.main_arg0)
      ∧ r.2.mem ((c.tc : Thread Cert.Quantize.nD Cert.Quantize.τ).loc Cert.Quantize.main_arg1) = m ((c.tc : Thread Cert.Quantize.nD Cert.Quantize.τ).loc Cert.Quantize.main_arg1)
      ∧ r.2.mem ((c.tc : Thread Cert.Quantize.nD Cert.Quantize.τ).loc Cert.Quantize.main_arg2) = m ((c.tc : Thread Cert.Quantize.nD Cert.Quantize.τ).loc Cert.Quantize.main_arg2))
      ∧ r.2.sem = fun _ => 0)

def quiescent_QuantizeIdeal [hQuantizeIdeal : Cert.QuantizeIdeal.Facts] : Prop :=
  ∀ (m : (ℓ : Loc Cert.QuantizeIdeal.nD Cert.QuantizeIdeal.τ Cert.QuantizeIdeal.sig) → Buf (Elt Ideal) ℓ) (g : Dev Cert.QuantizeIdeal.nD → PrngReg), Pre_QuantizeIdeal m →
    θ_run (Cert.QuantizeIdeal.defs (F := Ideal)) (onTc (τ := Cert.QuantizeIdeal.τ) (Cert.QuantizeIdeal.main (F := Ideal))) ⟨m, fun _ => 0, g⟩ (fun r => (∀ c : Dev Cert.QuantizeIdeal.nD,
      r.2.mem ((c.tc : Thread Cert.QuantizeIdeal.nD Cert.QuantizeIdeal.τ).loc Cert.QuantizeIdeal.main_arg0) = m ((c.tc : Thread Cert.QuantizeIdeal.nD Cert.QuantizeIdeal.τ).loc Cert.QuantizeIdeal.main_arg0)
      ∧ r.2.mem ((c.tc : Thread Cert.QuantizeIdeal.nD Cert.QuantizeIdeal.τ).loc Cert.QuantizeIdeal.main_arg1) = m ((c.tc : Thread Cert.QuantizeIdeal.nD Cert.QuantizeIdeal.τ).loc Cert.QuantizeIdeal.main_arg1)
      ∧ r.2.mem ((c.tc : Thread Cert.QuantizeIdeal.nD Cert.QuantizeIdeal.τ).loc Cert.QuantizeIdeal.main_arg2) = m ((c.tc : Thread Cert.QuantizeIdeal.nD Cert.QuantizeIdeal.τ).loc Cert.QuantizeIdeal.main_arg2))
      ∧ r.2.sem = fun _ => 0)

def quiescent_QuantizeIdeal_pre_finite [hQuantizeIdeal : Cert.QuantizeIdeal.Facts] [hPre_finite : Cert.Pre_finite.Facts] : Prop :=
  ∀ (m : (ℓ : Loc Cert.QuantizeIdeal.nD Cert.QuantizeIdeal.τ Cert.QuantizeIdeal.sig) → Buf (Elt Ideal) ℓ) (g : Dev Cert.QuantizeIdeal.nD → PrngReg), Pre_QuantizeIdeal_finite m →
    θ_run (Cert.QuantizeIdeal.defs (F := Ideal)) (onTc (τ := Cert.QuantizeIdeal.τ) (Cert.QuantizeIdeal.main (F := Ideal))) ⟨m, fun _ => 0, g⟩ (fun r => (∀ c : Dev Cert.QuantizeIdeal.nD,
      r.2.mem ((c.tc : Thread Cert.QuantizeIdeal.nD Cert.QuantizeIdeal.τ).loc Cert.QuantizeIdeal.main_arg0) = m ((c.tc : Thread Cert.QuantizeIdeal.nD Cert.QuantizeIdeal.τ).loc Cert.QuantizeIdeal.main_arg0)
      ∧ r.2.mem ((c.tc : Thread Cert.QuantizeIdeal.nD Cert.QuantizeIdeal.τ).loc Cert.QuantizeIdeal.main_arg1) = m ((c.tc : Thread Cert.QuantizeIdeal.nD Cert.QuantizeIdeal.τ).loc Cert.QuantizeIdeal.main_arg1)
      ∧ r.2.mem ((c.tc : Thread Cert.QuantizeIdeal.nD Cert.QuantizeIdeal.τ).loc Cert.QuantizeIdeal.main_arg2) = m ((c.tc : Thread Cert.QuantizeIdeal.nD Cert.QuantizeIdeal.τ).loc Cert.QuantizeIdeal.main_arg2))
      ∧ r.2.sem = fun _ => 0)

def quiescent_BlocksIdeal [hBlocksIdeal : Cert.BlocksIdeal.Facts] : Prop :=
  ∀ (m : (ℓ : Loc Cert.BlocksIdeal.nD Cert.BlocksIdeal.τ Cert.BlocksIdeal.sig) → Buf (Elt Ideal) ℓ) (g : Dev Cert.BlocksIdeal.nD → PrngReg), Pre_BlocksIdeal m →
    θ_run (Cert.BlocksIdeal.defs (F := Ideal)) (onTc (τ := Cert.BlocksIdeal.τ) (Cert.BlocksIdeal.main (F := Ideal))) ⟨m, fun _ => 0, g⟩ (fun r => (∀ c : Dev Cert.BlocksIdeal.nD,
      r.2.mem ((c.tc : Thread Cert.BlocksIdeal.nD Cert.BlocksIdeal.τ).loc Cert.BlocksIdeal.main_arg0) = m ((c.tc : Thread Cert.BlocksIdeal.nD Cert.BlocksIdeal.τ).loc Cert.BlocksIdeal.main_arg0)
      ∧ r.2.mem ((c.tc : Thread Cert.BlocksIdeal.nD Cert.BlocksIdeal.τ).loc Cert.BlocksIdeal.main_arg1) = m ((c.tc : Thread Cert.BlocksIdeal.nD Cert.BlocksIdeal.τ).loc Cert.BlocksIdeal.main_arg1)
      ∧ r.2.mem ((c.tc : Thread Cert.BlocksIdeal.nD Cert.BlocksIdeal.τ).loc Cert.BlocksIdeal.main_arg2) = m ((c.tc : Thread Cert.BlocksIdeal.nD Cert.BlocksIdeal.τ).loc Cert.BlocksIdeal.main_arg2))
      ∧ r.2.sem = fun _ => 0)

def quiescent_BlocksIdeal_pre_finite [hBlocksIdeal : Cert.BlocksIdeal.Facts] [hPre_finite : Cert.Pre_finite.Facts] : Prop :=
  ∀ (m : (ℓ : Loc Cert.BlocksIdeal.nD Cert.BlocksIdeal.τ Cert.BlocksIdeal.sig) → Buf (Elt Ideal) ℓ) (g : Dev Cert.BlocksIdeal.nD → PrngReg), Pre_BlocksIdeal_finite m →
    θ_run (Cert.BlocksIdeal.defs (F := Ideal)) (onTc (τ := Cert.BlocksIdeal.τ) (Cert.BlocksIdeal.main (F := Ideal))) ⟨m, fun _ => 0, g⟩ (fun r => (∀ c : Dev Cert.BlocksIdeal.nD,
      r.2.mem ((c.tc : Thread Cert.BlocksIdeal.nD Cert.BlocksIdeal.τ).loc Cert.BlocksIdeal.main_arg0) = m ((c.tc : Thread Cert.BlocksIdeal.nD Cert.BlocksIdeal.τ).loc Cert.BlocksIdeal.main_arg0)
      ∧ r.2.mem ((c.tc : Thread Cert.BlocksIdeal.nD Cert.BlocksIdeal.τ).loc Cert.BlocksIdeal.main_arg1) = m ((c.tc : Thread Cert.BlocksIdeal.nD Cert.BlocksIdeal.τ).loc Cert.BlocksIdeal.main_arg1)
      ∧ r.2.mem ((c.tc : Thread Cert.BlocksIdeal.nD Cert.BlocksIdeal.τ).loc Cert.BlocksIdeal.main_arg2) = m ((c.tc : Thread Cert.BlocksIdeal.nD Cert.BlocksIdeal.τ).loc Cert.BlocksIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Quantize_QuantizeIdeal : Prop :=
  True

def algebraic_QuantizeIdeal_BlocksIdeal_pre_finite [hQuantizeIdeal : Cert.QuantizeIdeal.Facts] [hBlocksIdeal : Cert.BlocksIdeal.Facts] [hPre_finite : Cert.Pre_finite.Facts] : Prop :=
  ∀ (m : (ℓ : Loc Cert.QuantizeIdeal.nD Cert.QuantizeIdeal.τ Cert.QuantizeIdeal.sig) → Buf (Elt Ideal) ℓ) (g : Dev Cert.QuantizeIdeal.nD → PrngReg)
    (m' : (ℓ : Loc Cert.BlocksIdeal.nD Cert.BlocksIdeal.τ Cert.BlocksIdeal.sig) → Buf (Elt Ideal) ℓ) (g' : Dev Cert.BlocksIdeal.nD → PrngReg), Pre_QuantizeIdeal_finite m →
    (∀ c : Dev Cert.QuantizeIdeal.nD,
      m' ((c.tc : Thread Cert.BlocksIdeal.nD Cert.BlocksIdeal.τ).loc Cert.BlocksIdeal.main_arg0) = m ((c.tc : Thread Cert.QuantizeIdeal.nD Cert.QuantizeIdeal.τ).loc Cert.QuantizeIdeal.main_arg0)
      ∧ m' ((c.tc : Thread Cert.BlocksIdeal.nD Cert.BlocksIdeal.τ).loc Cert.BlocksIdeal.main_arg1) = m ((c.tc : Thread Cert.QuantizeIdeal.nD Cert.QuantizeIdeal.τ).loc Cert.QuantizeIdeal.main_arg1)
      ∧ m' ((c.tc : Thread Cert.BlocksIdeal.nD Cert.BlocksIdeal.τ).loc Cert.BlocksIdeal.main_arg2) = m ((c.tc : Thread Cert.QuantizeIdeal.nD Cert.QuantizeIdeal.τ).loc Cert.QuantizeIdeal.main_arg2)) →
    ∃ (v0 : (c : Dev Cert.QuantizeIdeal.nD) → Buf (Elt Ideal) ((c.tc : Thread Cert.QuantizeIdeal.nD Cert.QuantizeIdeal.τ).loc Cert.QuantizeIdeal.main_v0_0)) (v1 : (c : Dev Cert.QuantizeIdeal.nD) → Buf (Elt Ideal) ((c.tc : Thread Cert.QuantizeIdeal.nD Cert.QuantizeIdeal.τ).loc Cert.QuantizeIdeal.main_v3)) (v2 : (c : Dev Cert.QuantizeIdeal.nD) → Buf (Elt Ideal) ((c.tc : Thread Cert.QuantizeIdeal.nD Cert.QuantizeIdeal.τ).loc Cert.QuantizeIdeal.main_v0_1)) (v3 : (c : Dev Cert.QuantizeIdeal.nD) → Buf (Elt Ideal) ((c.tc : Thread Cert.QuantizeIdeal.nD Cert.QuantizeIdeal.τ).loc Cert.QuantizeIdeal.main_v6)) (v4 : (c : Dev Cert.QuantizeIdeal.nD) → Buf (Elt Ideal) ((c.tc : Thread Cert.QuantizeIdeal.nD Cert.QuantizeIdeal.τ).loc Cert.QuantizeIdeal.main_v0_2)) (v5 : (c : Dev Cert.QuantizeIdeal.nD) → Buf (Elt Ideal) ((c.tc : Thread Cert.QuantizeIdeal.nD Cert.QuantizeIdeal.τ).loc Cert.QuantizeIdeal.main_v9)),
      θ_run (Cert.QuantizeIdeal.defs (F := Ideal)) (onTc (τ := Cert.QuantizeIdeal.τ) (Cert.QuantizeIdeal.main (F := Ideal))) ⟨m, fun _ => 0, g⟩ (fun r => ∀ c : Dev Cert.QuantizeIdeal.nD,
          r.2.mem ((c.tc : Thread Cert.QuantizeIdeal.nD Cert.QuantizeIdeal.τ).loc Cert.QuantizeIdeal.main_v0_0) = v0 c
          ∧ r.2.mem ((c.tc : Thread Cert.QuantizeIdeal.nD Cert.QuantizeIdeal.τ).loc Cert.QuantizeIdeal.main_v3) = v1 c
          ∧ r.2.mem ((c.tc : Thread Cert.QuantizeIdeal.nD Cert.QuantizeIdeal.τ).loc Cert.QuantizeIdeal.main_v0_1) = v2 c
          ∧ r.2.mem ((c.tc : Thread Cert.QuantizeIdeal.nD Cert.QuantizeIdeal.τ).loc Cert.QuantizeIdeal.main_v6) = v3 c
          ∧ r.2.mem ((c.tc : Thread Cert.QuantizeIdeal.nD Cert.QuantizeIdeal.τ).loc Cert.QuantizeIdeal.main_v0_2) = v4 c
          ∧ r.2.mem ((c.tc : Thread Cert.QuantizeIdeal.nD Cert.QuantizeIdeal.τ).loc Cert.QuantizeIdeal.main_v9) = v5 c
          ∧ r.2.mem ((c.tc : Thread Cert.QuantizeIdeal.nD Cert.QuantizeIdeal.τ).loc Cert.QuantizeIdeal.main_arg0) = m ((c.tc : Thread Cert.QuantizeIdeal.nD Cert.QuantizeIdeal.τ).loc Cert.QuantizeIdeal.main_arg0)
          ∧ r.2.mem ((c.tc : Thread Cert.QuantizeIdeal.nD Cert.QuantizeIdeal.τ).loc Cert.QuantizeIdeal.main_arg1) = m ((c.tc : Thread Cert.QuantizeIdeal.nD Cert.QuantizeIdeal.τ).loc Cert.QuantizeIdeal.main_arg1)
          ∧ r.2.mem ((c.tc : Thread Cert.QuantizeIdeal.nD Cert.QuantizeIdeal.τ).loc Cert.QuantizeIdeal.main_arg2) = m ((c.tc : Thread Cert.QuantizeIdeal.nD Cert.QuantizeIdeal.τ).loc Cert.QuantizeIdeal.main_arg2))
      ∧ θ_run (Cert.BlocksIdeal.defs (F := Ideal)) (onTc (τ := Cert.BlocksIdeal.τ) (Cert.BlocksIdeal.main (F := Ideal))) ⟨m', fun _ => 0, g'⟩ (fun r => ∀ c : Dev Cert.BlocksIdeal.nD,
          r.2.mem ((c.tc : Thread Cert.BlocksIdeal.nD Cert.BlocksIdeal.τ).loc Cert.BlocksIdeal.main_v0_0) = v0 c
          ∧ r.2.mem ((c.tc : Thread Cert.BlocksIdeal.nD Cert.BlocksIdeal.τ).loc Cert.BlocksIdeal.main_v0_1) = v1 c
          ∧ r.2.mem ((c.tc : Thread Cert.BlocksIdeal.nD Cert.BlocksIdeal.τ).loc Cert.BlocksIdeal.main_v0_2) = v2 c
          ∧ r.2.mem ((c.tc : Thread Cert.BlocksIdeal.nD Cert.BlocksIdeal.τ).loc Cert.BlocksIdeal.main_v0_3) = v3 c
          ∧ r.2.mem ((c.tc : Thread Cert.BlocksIdeal.nD Cert.BlocksIdeal.τ).loc Cert.BlocksIdeal.main_v0_4) = v4 c
          ∧ r.2.mem ((c.tc : Thread Cert.BlocksIdeal.nD Cert.BlocksIdeal.τ).loc Cert.BlocksIdeal.main_v0_5) = v5 c
          ∧ r.2.mem ((c.tc : Thread Cert.BlocksIdeal.nD Cert.BlocksIdeal.τ).loc Cert.BlocksIdeal.main_arg0) = m' ((c.tc : Thread Cert.BlocksIdeal.nD Cert.BlocksIdeal.τ).loc Cert.BlocksIdeal.main_arg0)
          ∧ r.2.mem ((c.tc : Thread Cert.BlocksIdeal.nD Cert.BlocksIdeal.τ).loc Cert.BlocksIdeal.main_arg1) = m' ((c.tc : Thread Cert.BlocksIdeal.nD Cert.BlocksIdeal.τ).loc Cert.BlocksIdeal.main_arg1)
          ∧ r.2.mem ((c.tc : Thread Cert.BlocksIdeal.nD Cert.BlocksIdeal.τ).loc Cert.BlocksIdeal.main_arg2) = m' ((c.tc : Thread Cert.BlocksIdeal.nD Cert.BlocksIdeal.τ).loc Cert.BlocksIdeal.main_arg2))

def Claim : Prop :=
  ∃ (hKernel : Cert.Kernel.Facts) (hKernelIdeal : Cert.KernelIdeal.Facts) (hReferenceIdeal : Cert.ReferenceIdeal.Facts) (hQuantize : Cert.Quantize.Facts) (hQuantizeIdeal : Cert.QuantizeIdeal.Facts) (hBlocksIdeal : Cert.BlocksIdeal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Quantize (hQuantize := hQuantize)
    ∧ quiescent_QuantizeIdeal (hQuantizeIdeal := hQuantizeIdeal)
    ∧ quiescent_QuantizeIdeal_pre_finite (hQuantizeIdeal := hQuantizeIdeal) (hPre_finite := hPre_finite)
    ∧ quiescent_BlocksIdeal (hBlocksIdeal := hBlocksIdeal)
    ∧ quiescent_BlocksIdeal_pre_finite (hBlocksIdeal := hBlocksIdeal) (hPre_finite := hPre_finite)
    ∧ preserves_Kernel_KernelIdeal
    ∧ algebraic_KernelIdeal_ReferenceIdeal (hKernelIdeal := hKernelIdeal) (hReferenceIdeal := hReferenceIdeal)
    ∧ preserves_Quantize_QuantizeIdeal
    ∧ algebraic_QuantizeIdeal_BlocksIdeal_pre_finite (hQuantizeIdeal := hQuantizeIdeal) (hBlocksIdeal := hBlocksIdeal) (hPre_finite := hPre_finite)
-- ==== Pre_finite.lean ====
abbrev S32768x8192 : Shape := ⟨2, ![32768, 8192]⟩
abbrev S32768x2048 : Shape := ⟨2, ![32768, 2048]⟩
abbrev S_ : Shape := ⟨0, ![]⟩
abbrev S32768x12288 : Shape := ⟨2, ![32768, 12288]⟩

class Facts : Prop where
  bcast_S_S32768x8192 : S_.BroadcastsInDim S32768x8192 (![] : Fin 0 → Fin S32768x8192.rank)
  bcast_S_S32768x2048 : S_.BroadcastsInDim S32768x2048 (![] : Fin 0 → Fin S32768x2048.rank)
  concatenates_S32768x8192_S32768x2048_S32768x2048_S32768x12288_d1 : Shape.Concatenates [S32768x8192, S32768x2048, S32768x2048] S32768x12288 1

variable [Facts]

def fn {F : FTy → Type} [FloatOps F] (main_arg0 : FVec F S32768x8192 .bf16) (main_arg1 : FVec F S32768x2048 .bf16) (main_arg2 : FVec F S32768x2048 .bf16) : IVec S32768x12288 1 :=
  let main_v0 : FVec F S32768x8192 .bf16 := Host.absf main_arg0
  let main_cst : FVec F S_ .bf16 := constant S_ .bf16 0x7F7F#16
  let main_v1 : FVec F S32768x8192 .bf16 := broadcastInDim S32768x8192 ![] bcast_S_S32768x8192 main_cst
  let main_v2 : IVec S32768x8192 1 := cmpf .ole main_v0 main_v1
  let main_v3 : FVec F S32768x2048 .bf16 := Host.absf main_arg1
  let main_cst_0 : FVec F S_ .bf16 := constant S_ .bf16 0x7F7F#16
  let main_v4 : FVec F S32768x2048 .bf16 := broadcastInDim S32768x2048 ![] bcast_S_S32768x2048 main_cst_0
  let main_v5 : IVec S32768x2048 1 := cmpf .ole main_v3 main_v4
  let main_v6 : FVec F S32768x2048 .bf16 := Host.absf main_arg2
  let main_cst_1 : FVec F S_ .bf16 := constant S_ .bf16 0x7F7F#16
  let main_v7 : FVec F S32768x2048 .bf16 := broadcastInDim S32768x2048 ![] bcast_S_S32768x2048 main_cst_1
  let main_v8 : IVec S32768x2048 1 := cmpf .ole main_v6 main_v7
  let main_v9 : IVec S32768x12288 1 := concatenate S32768x12288 1 [⟨S32768x8192, main_v2⟩, ⟨S32768x2048, main_v5⟩, ⟨S32768x2048, main_v8⟩] concatenates_S32768x8192_S32768x2048_S32768x2048_S32768x12288_d1
  main_v9
-- ==== Kernel.lean ====
abbrev S1x32768x64x128 : Shape := ⟨4, ![1, 32768, 64, 128]⟩
abbrev S1x256x64 : Shape := ⟨3, ![1, 256, 64]⟩
abbrev S1x32768x16x128 : Shape := ⟨4, ![1, 32768, 16, 128]⟩
abbrev S1x256x16 : Shape := ⟨3, ![1, 256, 16]⟩
abbrev S256x128x64x128 : Shape := ⟨4, ![256, 128, 64, 128]⟩
abbrev S64x256x128x128 : Shape := ⟨4, ![64, 256, 128, 128]⟩
abbrev S256x128x16x128 : Shape := ⟨4, ![256, 128, 16, 128]⟩
abbrev S16x256x128x128 : Shape := ⟨4, ![16, 256, 128, 128]⟩
abbrev S256x64 : Shape := ⟨2, ![256, 64]⟩
abbrev S256x1x64x1 : Shape := ⟨4, ![256, 1, 64, 1]⟩
abbrev S256x1x64x128 : Shape := ⟨4, ![256, 1, 64, 128]⟩
abbrev S256x1x8192 : Shape := ⟨3, ![256, 1, 8192]⟩
abbrev S256x16 : Shape := ⟨2, ![256, 16]⟩
abbrev S16x256 : Shape := ⟨2, ![16, 256]⟩
abbrev S16x1x256 : Shape := ⟨3, ![16, 1, 256]⟩
abbrev S32768x8192 : Shape := ⟨2, ![32768, 8192]⟩
abbrev S1x1x256 : Shape := ⟨3, ![1, 1, 256]⟩
abbrev S4x1x128x128 : Shape := ⟨4, ![4, 1, 128, 128]⟩
abbrev S1x1x512 : Shape := ⟨3, ![1, 1, 512]⟩
abbrev S1x256x128x128 : Shape := ⟨4, ![1, 256, 128, 128]⟩
abbrev S128x512 : Shape := ⟨2, ![128, 512]⟩
abbrev S512x128 : Shape := ⟨2, ![512, 128]⟩
abbrev S1x512 : Shape := ⟨2, ![1, 512]⟩
abbrev S1x1x128x128 : Shape := ⟨4, ![1, 1, 128, 128]⟩
abbrev S128x128 : Shape := ⟨2, ![128, 128]⟩
abbrev S1x1x1 : Shape := ⟨3, ![1, 1, 1]⟩
abbrev S512 : Shape := ⟨1, ![512]⟩
abbrev S1x128 : Shape := ⟨2, ![1, 128]⟩
abbrev S1 : Shape := ⟨1, ![1]⟩
abbrev S1x1 : Shape := ⟨2, ![1, 1]⟩
abbrev S1x256 : Shape := ⟨2, ![1, 256]⟩

abbrev nBuf : Space → Nat
  | .hbm => 23
  | .vmem => 10
  | .smem => 4
  | _ => 0

abbrev bufTy : (tb : Table) → Fin (tcTables nBuf tb) → BufTy
  | .hbm, ⟨0, _⟩ => ⟨S1x32768x64x128, .fp8e4m3⟩
  | .hbm, ⟨1, _⟩ => ⟨S1x256x64, .f32⟩
  | .hbm, ⟨2, _⟩ => ⟨S1x32768x16x128, .fp8e4m3⟩
  | .hbm, ⟨3, _⟩ => ⟨S1x256x16, .f32⟩
  | .hbm, ⟨4, _⟩ => ⟨S1x32768x16x128, .fp8e4m3⟩
  | .hbm, ⟨5, _⟩ => ⟨S1x256x16, .f32⟩
  | .hbm, ⟨6, _⟩ => ⟨S256x128x64x128, .fp8e4m3⟩
  | .hbm, ⟨7, _⟩ => ⟨S64x256x128x128, .fp8e4m3⟩
  | .hbm, ⟨8, _⟩ => ⟨S256x128x16x128, .fp8e4m3⟩
  | .hbm, ⟨9, _⟩ => ⟨S16x256x128x128, .fp8e4m3⟩
  | .hbm, ⟨10, _⟩ => ⟨S256x128x16x128, .fp8e4m3⟩
  | .hbm, ⟨11, _⟩ => ⟨S16x256x128x128, .fp8e4m3⟩
  | .hbm, ⟨12, _⟩ => ⟨S256x64, .f32⟩
  | .hbm, ⟨13, _⟩ => ⟨S256x1x64x1, .f32⟩
  | .hbm, ⟨14, _⟩ => ⟨S256x1x64x128, .f32⟩
  | .hbm, ⟨15, _⟩ => ⟨S256x1x8192, .f32⟩
  | .hbm, ⟨16, _⟩ => ⟨S256x16, .f32⟩
  | .hbm, ⟨17, _⟩ => ⟨S16x256, .f32⟩
  | .hbm, ⟨18, _⟩ => ⟨S16x1x256, .f32⟩
  | .hbm, ⟨19, _⟩ => ⟨S256x16, .f32⟩
  | .hbm, ⟨20, _⟩ => ⟨S16x256, .f32⟩
  | .hbm, ⟨21, _⟩ => ⟨S16x1x256, .f32⟩
  | .hbm, ⟨22, _⟩ => ⟨S32768x8192, .bf16⟩
  | .local _ .vmem, ⟨0, _⟩ => ⟨S4x1x128x128, .fp8e4m3⟩
  | .local _ .vmem, ⟨1, _⟩ => ⟨S4x1x128x128, .fp8e4m3⟩
  | .local _ .vmem, ⟨2, _⟩ => ⟨S1x1x512, .f32⟩
  | .local _ .vmem, ⟨3, _⟩ => ⟨S1x1x512, .f32⟩
  | .local _ .vmem, ⟨4, _⟩ => ⟨S1x256x128x128, .fp8e4m3⟩
  | .local _ .vmem, ⟨5, _⟩ => ⟨S1x256x128x128, .fp8e4m3⟩
  | .local _ .vmem, ⟨6, _⟩ => ⟨S1x256x128x128, .fp8e4m3⟩
  | .local _ .vmem, ⟨7, _⟩ => ⟨S1x256x128x128, .fp8e4m3⟩
  | .local _ .vmem, ⟨8, _⟩ => ⟨S128x512, .bf16⟩
  | .local _ .vmem, ⟨9, _⟩ => ⟨S128x512, .bf16⟩
  | .local _ .smem, ⟨0, _⟩ => ⟨S1x1x256, .f32⟩
  | .local _ .smem, ⟨1, _⟩ => ⟨S1x1x256, .f32⟩
  | .local _ .smem, ⟨2, _⟩ => ⟨S1x1x256, .f32⟩
  | .local _ .smem, ⟨3, _⟩ => ⟨S1x1x256, .f32⟩
  | _, _ => ⟨S1x32768x64x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 256], ![false, false]⟩

@[reducible] def k0_t1_loop (i : grid0.Coords) : Scf.Loop 32 :=
  let c0_i32 : BitVec 32 := 0#32
  let arg1 : BitVec 32 := BitVec.ofNat 32 (i 1).val
  let v8 : BitVec 32 := Scalar.subi arg1 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_8 : BitVec 32 := 1#32
  ⟨c0_i32, v12, c1_i32_8⟩
def k0_off1 (i : grid0.Coords) (k0_t1 : Fin (k0_t1_loop i).trips) : Fin 4 → Nat :=
  let c0_90 : Index := 0#32
  let c0_i32 : BitVec 32 := 0#32
  let c1_i32_8 : BitVec 32 := 1#32
  let arg9 : BitVec 32 := Scf.iv c0_i32 c1_i32_8 k0_t1
  let v265 : Index := Scalar.indexCast arg9
  let c0_91 : Index := 0#32
  let c0_92 : Index := 0#32
  ![0, v265.toNat, 0, 0]
def k0_off2 (i : grid0.Coords) (k0_t1 : Fin (k0_t1_loop i).trips) : Fin 3 → Nat :=
  let c0_94 : Index := 0#32
  let c0_95 : Index := 0#32
  let c0_i32 : BitVec 32 := 0#32
  let c1_i32_8 : BitVec 32 := 1#32
  let arg9 : BitVec 32 := Scf.iv c0_i32 c1_i32_8 k0_t1
  let v269 : Index := Scalar.indexCast arg9
  ![0, 0, v269.toNat]
@[reducible] def k0_t2_loop (i : grid0.Coords) : Scf.Loop 32 :=
  let c0_i32 : BitVec 32 := 0#32
  let arg1 : BitVec 32 := BitVec.ofNat 32 (i 1).val
  let v8 : BitVec 32 := Scalar.subi arg1 c0_i32
  let c1_i32 : BitVec 32 := 1#32
  let v10 : BitVec 32 := Scalar.divsi v8 c1_i32
  let v11 : BitVec 32 := Scalar.muli v10 c1_i32
  let v12 : BitVec 32 := Scalar.addi c0_i32 v11
  let v9 : BitVec 32 := Scalar.addi c0_i32 v8
  let c1_i32_9 : BitVec 32 := 1#32
  ⟨v12, v9, c1_i32_9⟩
def k0_off3 (i : grid0.Coords) (k0_t2 : Fin (k0_t2_loop i).trips) : Fin 4 → Nat :=
  let c0_90 : Index := 0#32
  let c0_i32 : BitVec 32 := 0#32
  let arg1 : BitVec 32 := BitVec.ofNat 32 (i 1).val
  let v8 : BitVec 32 := Scalar.subi arg1 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_9 : BitVec 32 := 1#32
  let arg9 : BitVec 32 := Scf.iv v12 c1_i32_9 k0_t2
  let v265 : Index := Scalar.indexCast arg9
  let c0_91 : Index := 0#32
  let c0_92 : Index := 0#32
  ![0, v265.toNat, 0, 0]
def k0_off4 (i : grid0.Coords) (k0_t2 : Fin (k0_t2_loop i).trips) : Fin 3 → Nat :=
  let c0_94 : Index := 0#32
  let c0_95 : Index := 0#32
  let c0_i32 : BitVec 32 := 0#32
  let arg1 : BitVec 32 := BitVec.ofNat 32 (i 1).val
  let v8 : BitVec 32 := Scalar.subi arg1 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_9 : BitVec 32 := 1#32
  let arg9 : BitVec 32 := Scf.iv v12 c1_i32_9 k0_t2
  let v269 : Index := Scalar.indexCast arg9
  ![0, 0, v269.toNat]
def k0_off5 (i : grid0.Coords) : Fin 4 → Nat :=
  let c0_10 : Index := 0#32
  let arg1 : BitVec 32 := BitVec.ofNat 32 (i 1).val
  let v15 : Index := Scalar.indexCast arg1
  let c0_11 : Index := 0#32
  let c0_12 : Index := 0#32
  ![0, v15.toNat, 0, 0]
def k0_off6 (i : grid0.Coords) : Fin 3 → Nat :=
  let c0_14 : Index := 0#32
  let c0_15 : Index := 0#32
  let arg1 : BitVec 32 := BitVec.ofNat 32 (i 1).val
  let v19 : Index := Scalar.indexCast arg1
  ![0, 0, v19.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .smem S1x1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .smem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x1x128x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x128x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S1x32768x64x128 : Shape := ⟨4, ![1, 32768, 64, 128]⟩
abbrev S1x256x64 : Shape := ⟨3, ![1, 256, 64]⟩
abbrev S1x32768x16x128 : Shape := ⟨4, ![1, 32768, 16, 128]⟩
abbrev S1x256x16 : Shape := ⟨3, ![1, 256, 16]⟩
abbrev S256x64 : Shape := ⟨2, ![256, 64]⟩
abbrev S256x16 : Shape := ⟨2, ![256, 16]⟩
abbrev S32768x8192 : Shape := ⟨2, ![32768, 8192]⟩
abbrev S32768x2048 : Shape := ⟨2, ![32768, 2048]⟩
abbrev S128x128 : Shape := ⟨2, ![128, 128]⟩
abbrev S1x1 : Shape := ⟨2, ![1, 1]⟩
abbrev S128x1 : Shape := ⟨2, ![128, 1]⟩
abbrev S128 : Shape := ⟨1, ![128]⟩
abbrev S1 : Shape := ⟨1, ![1]⟩
abbrev S1x254 : Shape := ⟨2, ![1, 254]⟩

abbrev nBuf : Space → Nat
  | .hbm => 13
  | .vmem => 4
  | .smem => 3
  | _ => 0

abbrev bufTy : (tb : Table) → Fin (tcTables nBuf tb) → BufTy
  | .hbm, ⟨0, _⟩ => ⟨S1x32768x64x128, .fp8e4m3⟩
  | .hbm, ⟨1, _⟩ => ⟨S1x256x64, .f32⟩
  | .hbm, ⟨2, _⟩ => ⟨S1x32768x16x128, .fp8e4m3⟩
  | .hbm, ⟨3, _⟩ => ⟨S1x256x16, .f32⟩
  | .hbm, ⟨4, _⟩ => ⟨S1x32768x16x128, .fp8e4m3⟩
  | .hbm, ⟨5, _⟩ => ⟨S1x256x16, .f32⟩
  | .hbm, ⟨6, _⟩ => ⟨S256x64, .f32⟩
  | .hbm, ⟨7, _⟩ => ⟨S256x16, .f32⟩
  | .hbm, ⟨8, _⟩ => ⟨S256x16, .f32⟩
  | .hbm, ⟨9, _⟩ => ⟨S32768x8192, .fp8e4m3⟩
  | .hbm, ⟨10, _⟩ => ⟨S32768x2048, .fp8e4m3⟩
  | .hbm, ⟨11, _⟩ => ⟨S32768x2048, .fp8e4m3⟩
  | .hbm, ⟨12, _⟩ => ⟨S32768x8192, .bf16⟩
  | .local _ .vmem, ⟨0, _⟩ => ⟨S32768x8192, .fp8e4m3⟩
  | .local _ .vmem, ⟨1, _⟩ => ⟨S32768x2048, .fp8e4m3⟩
  | .local _ .vmem, ⟨2, _⟩ => ⟨S32768x2048, .fp8e4m3⟩
  | .local _ .vmem, ⟨3, _⟩ => ⟨S32768x8192, .bf16⟩
  | .local _ .smem, ⟨0, _⟩ => ⟨S256x64, .f32⟩
  | .local _ .smem, ⟨1, _⟩ => ⟨S256x16, .f32⟩
  | .local _ .smem, ⟨2, _⟩ => ⟨S256x16, .f32⟩
  | _, _ => ⟨S1x32768x64x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg6_0 : Ref sig .tc := ⟨.vmem, 3, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c256_i32 : BitVec 32 := 256#32
  let v0 : BitVec 32 := Scalar.addi c0_i32 c256_i32
  let c1_i32 : BitVec 32 := 1#32
  ⟨c0_i32, v0, c1_i32⟩
@[reducible] def k0_t2_loop : Scf.Loop 32 :=
  let c0_i32_1 : BitVec 32 := 0#32
  let c64_i32 : BitVec 32 := 64#32
  let v1 : BitVec 32 := Scalar.addi c0_i32_1 c64_i32
  let c1_i32_2 : BitVec 32 := 1#32
  ⟨c0_i32_1, v1, c1_i32_2⟩
def k0_off1 (k0_t1 : Fin k0_t1_loop.trips) (k0_t2 : Fin k0_t2_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v3 : BitVec 32 := Scalar.muli arg7 c128_i32
  let v5 : Index := Scalar.indexCast v3
  let c0_i32_1 : BitVec 32 := 0#32
  let c1_i32_2 : BitVec 32 := 1#32
  let arg8 : BitVec 32 := Scf.iv c0_i32_1 c1_i32_2 k0_t2
  let c128_i32_4 : BitVec 32 := 128#32
  let v4 : BitVec 32 := Scalar.muli arg8 c128_i32_4
  let v6 : Index := Scalar.indexCast v4
  ![v5.toNat, v6.toNat]
def k0_off2 (k0_t1 : Fin k0_t1_loop.trips) (k0_t2 : Fin k0_t2_loop.trips) : Fin 2 → Nat :=
  let c0_i32 : BitVec 32 := 0#32
  let c1_i32 : BitVec 32 := 1#32
  let arg7 : BitVec 32 := Scf.iv c0_i32 c1_i32 k0_t1
  let v13 : Index := Scalar.indexCast arg7
  let c0_i32_1 : BitVec 32 := 0#32
  let c1_i32_2 : BitVec 32 := 1#32
  let arg8 : BitVec 32 := Scf.iv c0_i32_1 c1_i32_2 k0_t2
  let v14 : Index := Scalar.indexCast arg8
  ![v13.toNat, v14.toNat]
@[reducible] def k0_t3_loop (k0_t1 : Fin k0_t1_loop.trips) : Scf.Loop 32 :=
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v19 : BitVec 32 := Scalar.addi arg7 c1_i32_8
  let v20 : BitVec 32 := Scalar.subi v19 c0_i32_9
  let c1_i32_10 : BitVec 32 := 1#32
  let v22 : BitVec 32 := Scalar.divsi v20 c1_i32_10
  let v23 : BitVec 32 := Scalar.muli v22 c1_i32_10
  let v24 : BitVec 32 := Scalar.addi c0_i32_9 v23
  let c1_i32_11 : BitVec 32 := 1#32
  ⟨c0_i32_9, v24, c1_i32_11⟩
def k0_off3 (k0_t1 : Fin k0_t1_loop.trips) (k0_t2 : Fin k0_t2_loop.trips) (k0_t3 : Fin (k0_t3_loop k0_t1).trips) : Fin 2 → Nat :=
  let c0_i32_9 : BitVec 32 := 0#32
  let c1_i32_11 : BitVec 32 := 1#32
  let arg9 : BitVec 32 := Scf.iv c0_i32_9 c1_i32_11 k0_t3
  let c128_i32_15 : BitVec 32 := 128#32
  let v35 : BitVec 32 := Scalar.muli arg9 c128_i32_15
  let v37 : Index := Scalar.indexCast v35
  let c0_i32_1 : BitVec 32 := 0#32
  let c1_i32_2 : BitVec 32 := 1#32
  let arg8 : BitVec 32 := Scf.iv c0_i32_1 c1_i32_2 k0_t2
  let c4_i32 : BitVec 32 := 4#32
  let v2 : BitVec 32 := Scalar.divsi arg8 c4_i32
  let c128_i32_16 : BitVec 32 := 128#32
  let v36 : BitVec 32 := Scalar.muli v2 c128_i32_16
  let v38 : Index := Scalar.indexCast v36
  ![v37.toNat, v38.toNat]
def k0_off4 (k0_t1 : Fin k0_t1_loop.trips) (k0_t2 : Fin k0_t2_loop.trips) (k0_t3 : Fin (k0_t3_loop k0_t1).trips) : Fin 2 → Nat :=
  let c0_i32_9 : BitVec 32 := 0#32
  let c1_i32_11 : BitVec 32 := 1#32
  let arg9 : BitVec 32 := Scf.iv c0_i32_9 c1_i32_11 k0_t3
  let v48 : Index := Scalar.indexCast arg9
  let c0_i32_1 : BitVec 32 := 0#32
  let c1_i32_2 : BitVec 32 := 1#32
  let arg8 : BitVec 32 := Scf.iv c0_i32_1 c1_i32_2 k0_t2
  let c4_i32 : BitVec 32 := 4#32
  let v2 : BitVec 32 := Scalar.divsi arg8 c4_i32
  let v49 : Index := Scalar.indexCast v2
  ![v48.toNat, v49.toNat]
@[reducible] def k0_t4_loop (k0_t1 : Fin k0_t1_loop.trips) : Scf.Loop 32 :=
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v19 : BitVec 32 := Scalar.addi arg7 c1_i32_8
  let v20 : BitVec 32 := Scalar.subi v19 c0_i32_9
  let c1_i32_10 : BitVec 32 := 1#32
  let v22 : BitVec 32 := Scalar.divsi v20 c1_i32_10
  let v23 : BitVec 32 := Scalar.muli v22 c1_i32_10
  let v24 : BitVec 32 := Scalar.addi c0_i32_9 v23
  let v21 : BitVec 32 := Scalar.addi c0_i32_9 v20
  let c1_i32_12 : BitVec 32 := 1#32
  ⟨v24, v21, c1_i32_12⟩
def k0_off5 (k0_t1 : Fin k0_t1_loop.trips) (k0_t2 : Fin k0_t2_loop.trips) (k0_t4 : Fin (k0_t4_loop k0_t1).trips) : Fin 2 → Nat :=
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v19 : BitVec 32 := Scalar.addi arg7 c1_i32_8
  let v20 : BitVec 32 := Scalar.subi v19 c0_i32_9
  let c1_i32_10 : BitVec 32 := 1#32
  let v22 : BitVec 32 := Scalar.divsi v20 c1_i32_10
  let v23 : BitVec 32 := Scalar.muli v22 c1_i32_10
  let v24 : BitVec 32 := Scalar.addi c0_i32_9 v23
  let c1_i32_12 : BitVec 32 := 1#32
  let arg9 : BitVec 32 := Scf.iv v24 c1_i32_12 k0_t4
  let c128_i32_15 : BitVec 32 := 128#32
  let v35 : BitVec 32 := Scalar.muli arg9 c128_i32_15
  let v37 : Index := Scalar.indexCast v35
  let c0_i32_1 : BitVec 32 := 0#32
  let c1_i32_2 : BitVec 32 := 1#32
  let arg8 : BitVec 32 := Scf.iv c0_i32_1 c1_i32_2 k0_t2
  let c4_i32 : BitVec 32 := 4#32
  let v2 : BitVec 32 := Scalar.divsi arg8 c4_i32
  let c128_i32_16 : BitVec 32 := 128#32
  let v36 : BitVec 32 := Scalar.muli v2 c128_i32_16
  let v38 : Index := Scalar.indexCast v36
  ![v37.toNat, v38.toNat]
def k0_off6 (k0_t1 : Fin k0_t1_loop.trips) (k0_t2 : Fin k0_t2_loop.trips) (k0_t4 : Fin (k0_t4_loop k0_t1).trips) : Fin 2 → Nat :=
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v19 : BitVec 32 := Scalar.addi arg7 c1_i32_8
  let v20 : BitVec 32 := Scalar.subi v19 c0_i32_9
  let c1_i32_10 : BitVec 32 := 1#32
  let v22 : BitVec 32 := Scalar.divsi v20 c1_i32_10
  let v23 : BitVec 32 := Scalar.muli v22 c1_i32_10
  let v24 : BitVec 32 := Scalar.addi c0_i32_9 v23
  let c1_i32_12 : BitVec 32 := 1#32
  let arg9 : BitVec 32 := Scf.iv v24 c1_i32_12 k0_t4
  let v48 : Index := Scalar.indexCast arg9
  let c0_i32_1 : BitVec 32 := 0#32
  let c1_i32_2 : BitVec 32 := 1#32
  let arg8 : BitVec 32 := Scf.iv c0_i32_1 c1_i32_2 k0_t2
  let c4_i32 : BitVec 32 := 4#32
  let v2 : BitVec 32 := Scalar.divsi arg8 c4_i32
  let v49 : Index := Scalar.indexCast v2
  ![v48.toNat, v49.toNat]
abbrev stage0_0 : Fin 1 → Memref sig .tc .smem S256x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S256x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32768x8192 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32768x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32768x2048 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32768x8192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Quantize.lean ====
abbrev S32768x8192 : Shape := ⟨2, ![32768, 8192]⟩
abbrev S32768x2048 : Shape := ⟨2, ![32768, 2048]⟩
abbrev S64x256x128x128 : Shape := ⟨4, ![64, 256, 128, 128]⟩
abbrev S16x256x128x128 : Shape := ⟨4, ![16, 256, 128, 128]⟩
abbrev S256x1x8192 : Shape := ⟨3, ![256, 1, 8192]⟩
abbrev S256x1x2048 : Shape := ⟨3, ![256, 1, 2048]⟩
abbrev S128x8192 : Shape := ⟨2, ![128, 8192]⟩
abbrev S128x2048 : Shape := ⟨2, ![128, 2048]⟩
abbrev S64x1x128x128 : Shape := ⟨4, ![64, 1, 128, 128]⟩
abbrev S16x1x128x128 : Shape := ⟨4, ![16, 1, 128, 128]⟩
abbrev S1x1x8192 : Shape := ⟨3, ![1, 1, 8192]⟩
abbrev S1x1x2048 : Shape := ⟨3, ![1, 1, 2048]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1x1 : Shape := ⟨2, ![1, 1]⟩
abbrev S1x256 : Shape := ⟨2, ![1, 256]⟩
abbrev S1x1x128x128 : Shape := ⟨4, ![1, 1, 128, 128]⟩
abbrev S1x1x128 : Shape := ⟨3, ![1, 1, 128]⟩
abbrev S256x64x128 : Shape := ⟨3, ![256, 64, 128]⟩
abbrev S256x64x1 : Shape := ⟨3, ![256, 64, 1]⟩
abbrev S256x64 : Shape := ⟨2, ![256, 64]⟩
abbrev S256x16x128 : Shape := ⟨3, ![256, 16, 128]⟩
abbrev S256x16x1 : Shape := ⟨3, ![256, 16, 1]⟩
abbrev S256x16 : Shape := ⟨2, ![256, 16]⟩

abbrev nBuf : Space → Nat
  | .hbm => 21
  | .vmem => 24
  | .smem => 0
  | _ => 0

abbrev bufTy : (tb : Table) → Fin (tcTables nBuf tb) → BufTy
  | .hbm, ⟨0, _⟩ => ⟨S32768x8192, .bf16⟩
  | .hbm, ⟨1, _⟩ => ⟨S32768x2048, .bf16⟩
  | .hbm, ⟨2, _⟩ => ⟨S32768x2048, .bf16⟩
  | .hbm, ⟨3, _⟩ => ⟨S32768x8192, .fp8e4m3⟩
  | .hbm, ⟨4, _⟩ => ⟨S32768x2048, .fp8e4m3⟩
  | .hbm, ⟨5, _⟩ => ⟨S32768x2048, .fp8e4m3⟩
  | .hbm, ⟨6, _⟩ => ⟨S64x256x128x128, .fp8e4m3⟩
  | .hbm, ⟨7, _⟩ => ⟨S16x256x128x128, .fp8e4m3⟩
  | .hbm, ⟨8, _⟩ => ⟨S16x256x128x128, .fp8e4m3⟩
  | .hbm, ⟨9, _⟩ => ⟨S256x1x8192, .f32⟩
  | .hbm, ⟨10, _⟩ => ⟨S256x1x2048, .f32⟩
  | .hbm, ⟨11, _⟩ => ⟨S256x1x2048, .f32⟩
  | .hbm, ⟨12, _⟩ => ⟨S256x64x128, .f32⟩
  | .hbm, ⟨13, _⟩ => ⟨S256x64x1, .f32⟩
  | .hbm, ⟨14, _⟩ => ⟨S256x64, .f32⟩
  | .hbm, ⟨15, _⟩ => ⟨S256x16x128, .f32⟩
  | .hbm, ⟨16, _⟩ => ⟨S256x16x1, .f32⟩
  | .hbm, ⟨17, _⟩ => ⟨S256x16, .f32⟩
  | .hbm, ⟨18, _⟩ => ⟨S256x16x128, .f32⟩
  | .hbm, ⟨19, _⟩ => ⟨S256x16x1, .f32⟩
  | .hbm, ⟨20, _⟩ => ⟨S256x16, .f32⟩
  | .local _ .vmem, ⟨0, _⟩ => ⟨S128x8192, .bf16⟩
  | .local _ .vmem, ⟨1, _⟩ => ⟨S128x8192, .bf16⟩
  | .local _ .vmem, ⟨2, _⟩ => ⟨S128x2048, .bf16⟩
  | .local _ .vmem, ⟨3, _⟩ => ⟨S128x2048, .bf16⟩
  | .local _ .vmem, ⟨4, _⟩ => ⟨S128x2048, .bf16⟩
  | .local _ .vmem, ⟨5, _⟩ => ⟨S128x2048, .bf16⟩
  | .local _ .vmem, ⟨6, _⟩ => ⟨S128x8192, .fp8e4m3⟩
  | .local _ .vmem, ⟨7, _⟩ => ⟨S128x8192, .fp8e4m3⟩
  | .local _ .vmem, ⟨8, _⟩ => ⟨S128x2048, .fp8e4m3⟩
  | .local _ .vmem, ⟨9, _⟩ => ⟨S128x2048, .fp8e4m3⟩
  | .local _ .vmem, ⟨10, _⟩ => ⟨S128x2048, .fp8e4m3⟩
  | .local _ .vmem, ⟨11, _⟩ => ⟨S128x2048, .fp8e4m3⟩
  | .local _ .vmem, ⟨12, _⟩ => ⟨S64x1x128x128, .fp8e4m3⟩
  | .local _ .vmem, ⟨13, _⟩ => ⟨S64x1x128x128, .fp8e4m3⟩
  | .local _ .vmem, ⟨14, _⟩ => ⟨S16x1x128x128, .fp8e4m3⟩
  | .local _ .vmem, ⟨15, _⟩ => ⟨S16x1x128x128, .fp8e4m3⟩
  | .local _ .vmem, ⟨16, _⟩ => ⟨S16x1x128x128, .fp8e4m3⟩
  | .local _ .vmem, ⟨17, _⟩ => ⟨S16x1x128x128, .fp8e4m3⟩
  | .local _ .vmem, ⟨18, _⟩ => ⟨S1x1x8192, .f32⟩
  | .local _ .vmem, ⟨19, _⟩ => ⟨S1x1x8192, .f32⟩
  | .local _ .vmem, ⟨20, _⟩ => ⟨S1x1x2048, .f32⟩
  | .local _ .vmem, ⟨21, _⟩ => ⟨S1x1x2048, .f32⟩
  | .local _ .vmem, ⟨22, _⟩ => ⟨S1x1x2048, .f32⟩
  | .local _ .vmem, ⟨23, _⟩ => ⟨S1x1x2048, .f32⟩
  | _, _ => ⟨S32768x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev main_v0_7 : Ref sig .tc := ⟨.hbm, 10, rfl⟩
abbrev main_v0_8 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x8192 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1x128x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1x128x128 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x1x128x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x8192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== BlocksIdeal.lean ====
abbrev S32768x8192 : Shape := ⟨2, ![32768, 8192]⟩
abbrev S32768x2048 : Shape := ⟨2, ![32768, 2048]⟩
abbrev S256x64 : Shape := ⟨2, ![256, 64]⟩
abbrev S256x16 : Shape := ⟨2, ![256, 16]⟩
abbrev S256x128x64x128 : Shape := ⟨4, ![256, 128, 64, 128]⟩
abbrev S256x64x128 : Shape := ⟨3, ![256, 64, 128]⟩
abbrev S256x1x64x128 : Shape := ⟨4, ![256, 1, 64, 128]⟩
abbrev S256x1x64 : Shape := ⟨3, ![256, 1, 64]⟩
abbrev S256x1x64x1 : Shape := ⟨4, ![256, 1, 64, 1]⟩
abbrev S1x1x1x254 : Shape := ⟨4, ![1, 1, 1, 254]⟩
abbrev S256x1x64x254 : Shape := ⟨4, ![256, 1, 64, 254]⟩
abbrev S256x128x16x128 : Shape := ⟨4, ![256, 128, 16, 128]⟩
abbrev S256x16x128 : Shape := ⟨3, ![256, 16, 128]⟩
abbrev S256x1x16x128 : Shape := ⟨4, ![256, 1, 16, 128]⟩
abbrev S256x1x16 : Shape := ⟨3, ![256, 1, 16]⟩
abbrev S256x1x16x1 : Shape := ⟨4, ![256, 1, 16, 1]⟩
abbrev S256x1x16x254 : Shape := ⟨4, ![256, 1, 16, 254]⟩

abbrev nBuf : Space → Nat
  | .hbm => 9
  | .vmem => 9
  | .smem => 0
  | _ => 0

abbrev bufTy : (tb : Table) → Fin (tcTables nBuf tb) → BufTy
  | .hbm, ⟨0, _⟩ => ⟨S32768x8192, .bf16⟩
  | .hbm, ⟨1, _⟩ => ⟨S32768x2048, .bf16⟩
  | .hbm, ⟨2, _⟩ => ⟨S32768x2048, .bf16⟩
  | .hbm, ⟨3, _⟩ => ⟨S32768x8192, .fp8e4m3⟩
  | .hbm, ⟨4, _⟩ => ⟨S256x64, .f32⟩
  | .hbm, ⟨5, _⟩ => ⟨S32768x2048, .fp8e4m3⟩
  | .hbm, ⟨6, _⟩ => ⟨S256x16, .f32⟩
  | .hbm, ⟨7, _⟩ => ⟨S32768x2048, .fp8e4m3⟩
  | .hbm, ⟨8, _⟩ => ⟨S256x16, .f32⟩
  | .local _ .vmem, ⟨0, _⟩ => ⟨S32768x8192, .bf16⟩
  | .local _ .vmem, ⟨1, _⟩ => ⟨S32768x2048, .bf16⟩
  | .local _ .vmem, ⟨2, _⟩ => ⟨S32768x2048, .bf16⟩
  | .local _ .vmem, ⟨3, _⟩ => ⟨S32768x8192, .fp8e4m3⟩
  | .local _ .vmem, ⟨4, _⟩ => ⟨S256x64, .f32⟩
  | .local _ .vmem, ⟨5, _⟩ => ⟨S32768x2048, .fp8e4m3⟩
  | .local _ .vmem, ⟨6, _⟩ => ⟨S256x16, .f32⟩
  | .local _ .vmem, ⟨7, _⟩ => ⟨S32768x2048, .fp8e4m3⟩
  | .local _ .vmem, ⟨8, _⟩ => ⟨S256x16, .f32⟩
  | _, _ => ⟨S32768x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S32768x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32768x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32768x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32768x8192 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32768x2048 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32768x2048 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Spec.lean ====
/-
  The mathematics of one step of the attention, on the extended reals: the running maximum, the running sum, the
  weighted sum of the values; what is true of the weights (between zero and one), of the power-of-two scale their codes
  take (so that no code is clipped), and why the scale drops out of the product with the values.
-/
module

public import Idealize.ShloMosaic.Lib.Pointwise
public import Idealize.ShloMosaic.Lib.IndicatorCount
public import Idealize.ShloMosaic.PureOps.Ideal.Laws
public import Idealize.ShloMosaic.Lib.WordArith
public import Idealize.ShloMosaic.Lib.Affine

@[expose] public section

set_option maxRecDepth 16384

noncomputable section

namespace Cert.Attn

open Idealize.ShloMosaic

/-! ## One row of one step -/

/-- The maximum of a row of 128 scores. -/
def rmax (s : Fin 128 → EReal) : EReal := Finset.univ.fold max ⊥ s

/-- The running maximum after the row `s`. -/
def mNew (m : EReal) (s : Fin 128 → EReal) : EReal := max m (rmax s)

/-- The weight of score `c`. -/
def pRow (m : EReal) (s : Fin 128 → EReal) (c : Fin 128) : EReal := Ideal.exp (s c - mNew m s)

/-- The factor on what was summed before. -/
def aRow (m : EReal) (s : Fin 128 → EReal) : EReal := Ideal.exp (m - mNew m s)

/-- The running sum after the row. -/
def lNew (m l : EReal) (s : Fin 128 → EReal) : EReal := l * aRow m s + ∑ c, pRow m s c

/-- One column of the running weighted sum after the row; `V` the values of that column, `vs` their scale. -/
def accNew (m a : EReal) (s V : Fin 128 → EReal) (vs : EReal) : EReal :=
  a * aRow m s + (∑ c, pRow m s c * V c) * vs

theorem le_fold_max {ι : Type} (b : EReal) (f : ι → EReal) (t : Finset ι) (i : ι) (hi : i ∈ t) : f i ≤ t.fold max b f :=
  (Finset.le_fold_max (f i)).mpr (.inr ⟨i, hi, le_rfl⟩)

theorem fold_max_le {ι : Type} (f : ι → EReal) (t : Finset ι) (b y : EReal) (hb : b ≤ y) (h : ∀ i ∈ t, f i ≤ y) : t.fold max b f ≤ y :=
  (Finset.fold_max_le y).mpr ⟨hb, h⟩

theorem le_mNew (m : EReal) (s : Fin 128 → EReal) (c : Fin 128) : s c ≤ mNew m s :=
  (le_fold_max ⊥ s Finset.univ c (Finset.mem_univ c)).trans (le_max_right _ _)

theorem exp_nonneg (x : EReal) : 0 ≤ Ideal.exp x := by
  induction x with
  | bot => simp
  | top => simp
  | coe r => simp [Real.exp_nonneg]

theorem exp_le_one (x : EReal) (hx : x ≤ 0) : Ideal.exp x ≤ 1 := by
  induction x with
  | bot => simp
  | top => simp at hx
  | coe r =>
    have : r ≤ 0 := by exact_mod_cast hx
    rw [Ideal.exp_coe]
    exact_mod_cast Real.exp_le_one_iff.mpr this

theorem sub_nonpos_of_le (x y : EReal) (h : x ≤ y) : x - y ≤ 0 := by
  induction x with
  | bot => simp
  | top => rw [top_le_iff.mp h]; simp [sub_eq_add_neg]
  | coe r =>
    induction y with
    | bot => simp at h
    | top => simp [sub_eq_add_neg]
    | coe q =>
      have : r ≤ q := by exact_mod_cast h
      rw [← EReal.coe_sub]; exact_mod_cast sub_nonpos.mpr this

theorem pRow_nonneg (m : EReal) (s : Fin 128 → EReal) (c : Fin 128) : 0 ≤ pRow m s c := exp_nonneg _

theorem pRow_le_one (m : EReal) (s : Fin 128 → EReal) (c : Fin 128) : pRow m s c ≤ 1 :=
  exp_le_one _ (sub_nonpos_of_le _ _ (le_mNew m s c))

/-- The absolute value of a non-negative number is the number. -/
theorem abs_of_nonneg (x : EReal) (h : 0 ≤ x) : max x (-x) = x :=
  max_eq_left ((EReal.neg_le_neg_iff.mpr h).trans (by simpa using h))

/-! ## The greatest weight of a tile -/

/-- The greatest weight of a 128 by 128 tile. -/
def tmax (p : Fin 128 → Fin 128 → EReal) : EReal := Finset.univ.fold max ⊥ fun r => Finset.univ.fold max ⊥ fun c => p r c

theorem le_tmax (p : Fin 128 → Fin 128 → EReal) (r c : Fin 128) : p r c ≤ tmax p :=
  (le_fold_max ⊥ (p r) Finset.univ c (Finset.mem_univ c)).trans
    (le_fold_max ⊥ (fun r => Finset.univ.fold max ⊥ fun c => p r c) Finset.univ r (Finset.mem_univ r))

theorem tmax_le (p : Fin 128 → Fin 128 → EReal) (y : EReal) (h : ∀ r c, p r c ≤ y) : tmax p ≤ y :=
  fold_max_le _ _ _ _ bot_le fun r _ => fold_max_le _ _ _ _ bot_le fun c _ => h r c

/-! ## The constants -/

/-- The word of 1/448, as a real number a little above it. -/
def c448 : ℝ := 9586981 / 4294967296

theorem ofBits_c448 : Ideal.ofBits .f32 0x3B124925#32 = (c448 : EReal) := by
  have h1 : ((0x3B124925#32).extractLsb' 31 1 == 1#1) = false := by decide
  have h2 : ((0x3B124925#32).extractLsb' 23 8).toNat = 118 := by decide
  have h3 : ((0x3B124925#32).extractLsb' 0 23).toNat = 1198373 := by decide
  simp only [Ideal.ofBits, Ideal.ieee, Nat.reduceAdd, h1, h2, h3]
  norm_num [c448]

theorem ofBits_448 : Ideal.ofBits .f32 0x43E00000#32 = ((448 : ℝ) : EReal) := by
  have h1 : ((0x43E00000#32).extractLsb' 31 1 == 1#1) = false := by decide
  have h2 : ((0x43E00000#32).extractLsb' 23 8).toNat = 135 := by decide
  have h3 : ((0x43E00000#32).extractLsb' 0 23).toNat = 6291456 := by decide
  simp only [Ideal.ofBits, Ideal.ieee, Nat.reduceAdd, h1, h2, h3]
  norm_num

theorem ofBits_neg448 : Ideal.ofBits .f32 0xC3E00000#32 = ((-448 : ℝ) : EReal) := by
  have h1 : ((0xC3E00000#32).extractLsb' 31 1 == 1#1) = true := by decide
  have h2 : ((0xC3E00000#32).extractLsb' 23 8).toNat = 135 := by decide
  have h3 : ((0xC3E00000#32).extractLsb' 0 23).toNat = 6291456 := by decide
  simp only [Ideal.ofBits, Ideal.ieee, Nat.reduceAdd, h1, h2, h3]
  norm_num

theorem ofBits_negInf : Ideal.ofBits .f32 0xFF800000#32 = ⊥ := by
  have h1 : ((0xFF800000#32).extractLsb' 31 1 == 1#1) = true := by decide
  have h2 : ((0xFF800000#32).extractLsb' 23 8).toNat = 255 := by decide
  have h3 : ((0xFF800000#32).extractLsb' 0 23).toNat = 0 := by decide
  simp only [Ideal.ofBits, Ideal.ieee, Nat.reduceAdd, h1, h2, h3]
  norm_num

/-- The word with exponent field `k` and nothing else is the power of two `k - 127`. -/
theorem ofBits_pow2 (k : Fin 255) (hk : 0 < k.val) :
    Ideal.ofBits .f32 (BitVec.ofNat 32 k.val <<< 23) = (((2 : ℝ) ^ ((k.val : ℤ) - 127) : ℝ) : EReal) := by
  have h1 : ∀ k : Fin 255, ((BitVec.ofNat 32 k.val <<< 23).extractLsb' 31 1 == 1#1) = false := by decide +kernel
  have h2 : ∀ k : Fin 255, ((BitVec.ofNat 32 k.val <<< 23).extractLsb' 23 8).toNat = k.val := by decide +kernel
  have h3 : ∀ k : Fin 255, ((BitVec.ofNat 32 k.val <<< 23).extractLsb' 0 23).toNat = 0 := by decide +kernel
  have hk2 := k.isLt
  have ha : ¬ k.val = 255 := by omega
  have hb : ¬ k.val = 0 := by omega
  simp only [Ideal.ofBits, Ideal.ieee, Nat.reduceAdd, h1, h2, h3]
  norm_num [ha, hb]
  have e : (2 : ℝ) ^ ((k.val : ℤ) - 127 - 23) = 2 ^ ((k.val : ℤ) - 127) / 8388608 := by
    rw [zpow_sub₀ (by norm_num : (2 : ℝ) ≠ 0) _ 23]; norm_num
  rw [e]
  have e2 : (8388608 : ℝ) * (2 ^ ((k.val : ℤ) - 127) / 8388608) = 2 ^ ((k.val : ℤ) - 127) := by ring
  exact_mod_cast e2

/-- The word with all exponent bits is the infinity. -/
theorem ofBits_pow2_top : Ideal.ofBits .f32 (BitVec.ofNat 32 255 <<< 23) = ⊤ := by
  have h1 : ((BitVec.ofNat 32 255 <<< 23).extractLsb' 31 1 == 1#1) = false := by decide
  have h2 : ((BitVec.ofNat 32 255 <<< 23).extractLsb' 23 8).toNat = 255 := by decide
  have h3 : ((BitVec.ofNat 32 255 <<< 23).extractLsb' 0 23).toNat = 0 := by decide
  simp only [Ideal.ofBits, Ideal.ieee, Nat.reduceAdd, h1, h2, h3]
  norm_num

/-! ## The scale drops out -/

theorem sum_mul_coe {ι : Type} (t : Finset ι) (f : ι → EReal) (z : ℝ) (hz : 0 ≤ z) :
    ∑ c ∈ t, f c * (z : EReal) = (∑ c ∈ t, f c) * (z : EReal) := by
  classical
  induction t using Finset.induction_on with
  | empty => simp
  | insert a t ha ih =>
    rw [Finset.sum_insert ha, Finset.sum_insert ha, ih,
      EReal.right_distrib_of_nonneg_of_ne_top (by exact_mod_cast hz) (EReal.coe_ne_top _)]

/-- A non-negative weight below `448 x`, divided by `x`, is not clipped. -/
theorem clip_id (p : EReal) (x : ℝ) (hx : 0 < x) (h0 : 0 ≤ p) (hb : p ≤ ((448 * x : ℝ) : EReal)) :
    min ((448 : ℝ) : EReal) (max ((-448 : ℝ) : EReal) (p * ((x⁻¹ : ℝ) : EReal))) = p * ((x⁻¹ : ℝ) : EReal) := by
  have hpt : p ≠ ⊤ := ne_top_of_le_ne_top (EReal.coe_ne_top _) hb
  have hpb : p ≠ ⊥ := by rintro rfl; simp at h0
  lift p to ℝ using ⟨hpt, hpb⟩
  have h0' : 0 ≤ p := by exact_mod_cast h0
  have hb' : p ≤ 448 * x := by exact_mod_cast hb
  have h1 : p * x⁻¹ ≤ 448 := by rw [← div_eq_mul_inv, div_le_iff₀ hx]; exact hb'
  have h2 : -448 ≤ p * x⁻¹ := by
    have : 0 ≤ p * x⁻¹ := mul_nonneg h0' (inv_nonneg.mpr hx.le)
    linarith
  rw [← EReal.coe_mul, max_eq_right (by exact_mod_cast h2), min_eq_right (by exact_mod_cast h1)]

/-- The codes of the weights at the scale `x`, times the values, times the scale: the weights times the values. -/
theorem requant (p V : Fin 128 → EReal) (vs : EReal) (x : ℝ) (hx : 0 < x) (h0 : ∀ c, 0 ≤ p c) (hb : ∀ c, p c ≤ ((448 * x : ℝ) : EReal)) :
    (∑ c, min ((448 : ℝ) : EReal) (max ((-448 : ℝ) : EReal) (p c * ((x⁻¹ : ℝ) : EReal))) * V c) * ((x : EReal) * vs) = (∑ c, p c * V c) * vs := by
  have e : ∀ c, min ((448 : ℝ) : EReal) (max ((-448 : ℝ) : EReal) (p c * ((x⁻¹ : ℝ) : EReal))) * V c = (p c * V c) * ((x⁻¹ : ℝ) : EReal) := by
    intro c
    rw [clip_id (p c) x hx (h0 c) (hb c), mul_assoc, mul_comm _ (V c), ← mul_assoc]
  simp only [e]
  rw [sum_mul_coe _ _ _ (inv_nonneg.mpr hx.le), mul_assoc, ← mul_assoc ((x⁻¹ : ℝ) : EReal), ← EReal.coe_mul,
    inv_mul_cancel₀ hx.ne', EReal.coe_one, one_mul]

/-! ## The exponent by counting -/

/-- The number `N` of exponents `j` in `lo ≤ j < K` whose power
    of two `2 ^ (j - b)` is at most `y` is such that `y` is below `2 ^ (lo + N - b)`, if some power listed is above `y`. -/
theorem count_bound (K lo : ℕ) (b : ℤ) (y : ℝ) (P : Fin K → Prop) [DecidablePred P]
    (hP : ∀ j : Fin K, P j ↔ lo ≤ j.val ∧ (2 : ℝ) ^ ((j.val : ℤ) - b) ≤ y) (T : ℕ) (hT : lo ≤ T) (hTK : T < K) (hy : y < (2 : ℝ) ^ ((T : ℤ) - b)) :
    lo + (Finset.univ.filter P).card ≤ T ∧ y < (2 : ℝ) ^ (((lo + (Finset.univ.filter P).card : ℕ) : ℤ) - b) := by
  set N := (Finset.univ.filter P).card with hN
  have hlt : ∀ j : Fin K, P j → j.val < T := by
    intro j hj
    by_contra hc
    have : (2 : ℝ) ^ ((T : ℤ) - b) ≤ 2 ^ ((j.val : ℤ) - b) := zpow_le_zpow_right₀ (by norm_num) (by omega)
    linarith [((hP j).mp hj).2]
  have h1 : N ≤ T - lo := by
    have : (Finset.univ.filter P).map Fin.valEmbedding ⊆ Finset.Ico lo T := by
      intro a ha
      obtain ⟨j, hj, rfl⟩ := Finset.mem_map.mp ha
      have hj' := (Finset.mem_filter.mp hj).2
      exact Finset.mem_Ico.mpr ⟨((hP j).mp hj').1, hlt j hj'⟩
    have h := Finset.card_le_card this
    rwa [Finset.card_map, Nat.card_Ico] at h
  refine ⟨by omega, ?_⟩
  by_contra hc
  have hc' : (2 : ℝ) ^ (((lo + N : ℕ) : ℤ) - b) ≤ y := not_lt.mp hc
  have : Finset.Icc lo (lo + N) ⊆ (Finset.univ.filter P).map Fin.valEmbedding := by
    intro a ha
    have ha' := Finset.mem_Icc.mp ha
    have haK : a < K := by omega
    refine Finset.mem_map.mpr ⟨⟨a, haK⟩, Finset.mem_filter.mpr ⟨Finset.mem_univ _, (hP _).mpr ⟨ha'.1, ?_⟩⟩, rfl⟩
    have : (2 : ℝ) ^ ((a : ℤ) - b) ≤ 2 ^ (((lo + N : ℕ) : ℤ) - b) := zpow_le_zpow_right₀ (by norm_num) (by omega)
    show (2 : ℝ) ^ ((a : ℤ) - b) ≤ y
    linarith
  have h := Finset.card_le_card this
  rw [Finset.card_map, Nat.card_Icc] at h
  omega

/-! ## The scores and the recursion over the key blocks -/

/-- The score of query row `128 i + r` and key row `128 j + c`: the scaled product, and a large negative number where the key
    comes after the query. `Q` is the query row, `K` the key row, `a` the product of the two block scales. -/
def score (Q K : Fin 128 → EReal) (a : EReal) (i j : ℕ) (r c : Fin 128) : EReal :=
  if 128 * j + c.val ≤ 128 * i + r.val then (∑ x, Q x * K x) * (a * Ideal.ofBits .f32 1035273459#32)
  else Ideal.ofBits .f32 4048155338#32

/-- Running maximum, running normaliser and weighted sum after `j` key blocks. -/
def attn (s V : ℕ → Fin 128 → EReal) (vs : ℕ → EReal) : ℕ → EReal × EReal × EReal
  | 0 => (⊥, 0, 0)
  | j + 1 =>
    let z := attn s V vs j
    (mNew z.1 (s j), lNew z.1 z.2.1 (s j), accNew z.1 z.2.2 (s j) (V j) (vs j))

theorem mask_word (i j r c : ℕ) (hi : i < 256) (hj : j < 256) (hr : r < 128) (hc : c < 128) :
    (IntOp.cmpi CmpIPredicate.sle (IntOp.addi (Scalar.muli (Scf.iv 0#32 1#32 j) 128#32) (BitVec.ofNat 32 c))
        (IntOp.addi (Scalar.muli (Scf.iv 0#32 1#32 i) 128#32) (BitVec.ofNat 32 r)) = 1#1) ↔ 128 * j + c ≤ 128 * i + r := by
  have w : ∀ a b : ℕ, a < 256 → b < 128 →
      (IntOp.addi (Scalar.muli (Scf.iv 0#32 1#32 a) 128#32) (BitVec.ofNat 32 b)).toInt = ((128 * a + b : ℕ) : ℤ) := by
    intro a b ha hb
    have : IntOp.addi (Scalar.muli (Scf.iv 0#32 1#32 a) 128#32) (BitVec.ofNat 32 b) = BitVec.ofNat 32 (128 * a + b) := by
      apply BitVec.eq_of_toNat_eq
      simp [IntOp.addi, Scalar.muli, IntOp.muli, Scf.iv, BitVec.toNat_add, BitVec.toNat_mul, Nat.mul_comm]
    rw [this, WordArith.toInt_ofNat_small _ (by omega)]
  rw [IntOp.cmpi_sle, w j c hj hc, w i r hi hr]
  omega

/-- The attention of query row `s`, head `n`, at dimension `d`: over the key blocks up to the query's own. -/
def attnOut (q : Fin 32768 → Fin 64 → Fin 128 → EReal) (qs : Fin 256 → Fin 64 → EReal) (k : Fin 32768 → Fin 16 → Fin 128 → EReal)
    (ks : Fin 256 → Fin 16 → EReal) (v : Fin 32768 → Fin 16 → Fin 128 → EReal) (vs : Fin 256 → Fin 16 → EReal)
    (i : Fin 256) (n : Fin 64) (r d : Fin 128) : EReal :=
  let g : Fin 16 := ⟨n.val / 4, by omega⟩
  let z := attn
    (fun j c => score (q ⟨128 * i.val + r.val, by omega⟩ n) (k (Fin.ofNat 32768 (128 * j + c.val)) g) (qs i n * ks (Fin.ofNat 256 j) g) i.val j r c)
    (fun j c => v (Fin.ofNat 32768 (128 * j + c.val)) g d) (fun j => vs (Fin.ofNat 256 j) g) (i.val + 1)
  Ideal.div z.2.2 z.2.1

/-- The whole result, of the six arguments. -/
def result (a0 : (⟨4, ![1, 32768, 64, 128]⟩ : Shape).Idx → EReal) (a1 : (⟨3, ![1, 256, 64]⟩ : Shape).Idx → EReal)
    (a2 : (⟨4, ![1, 32768, 16, 128]⟩ : Shape).Idx → EReal) (a3 : (⟨3, ![1, 256, 16]⟩ : Shape).Idx → EReal)
    (a4 : (⟨4, ![1, 32768, 16, 128]⟩ : Shape).Idx → EReal) (a5 : (⟨3, ![1, 256, 16]⟩ : Shape).Idx → EReal)
    (y : (⟨2, ![32768, 8192]⟩ : Shape).Idx) : EReal :=
  attnOut (fun s n d => a0 (ix4 0 s n d)) (fun b n => a1 (ix3 0 b n)) (fun s n d => a2 (ix4 0 s n d)) (fun b n => a3 (ix3 0 b n))
    (fun s n d => a4 (ix4 0 s n d)) (fun b n => a5 (ix3 0 b n))
    ⟨(y 0).val / 128, by have : (y 0).val < 32768 := (y 0).isLt; omega⟩ ⟨(y 1).val / 128, by have : (y 1).val < 8192 := (y 1).isLt; omega⟩
    ⟨(y 0).val % 128, by omega⟩ ⟨(y 1).val % 128, by omega⟩

end Cert.Attn

end
-- ==== Proof.RefLoops.lean ====
/-
  The two outer loops of the reference's one call: over the query blocks and, inside, over the query heads. The body of
  the inner one runs the loop over the key blocks (its invariant is the generated one), then stores one tile of 128 rows
  by 128 columns. Each of the two outer loops leaves a list of such stores, newest first; that list is its invariant.
-/
module

public import proofs.«01_k».proof.Proof.Gen.ReferenceIdeal.Skeleton
public import proofs.«01_k».proof.Proof.Gen.ReferenceIdeal.Loops
public import Idealize.ShloMosaic.Lib.LoopRemainder

@[expose] public section

set_option maxRecDepth 16384
set_option maxHeartbeats 4000000
set_option warn.classDefReducibility false

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- What one trip of either loop holds: the six operands at their contents and the result at `f`. -/
abbrev Held (c : Dev nD) (arg0 : Memref sig .tc .smem S256x64 .f32) (harg0 : arg0.IsWhole) (arg1 : Memref sig .tc .smem S256x16 .f32) (harg1 : arg1.IsWhole) (arg2 : Memref sig .tc .smem S256x16 .f32) (harg2 : arg2.IsWhole) (arg3 : Memref sig .tc .vmem S32768x8192 .fp8e4m3) (harg3 : arg3.IsWhole) (arg4 : Memref sig .tc .vmem S32768x2048 .fp8e4m3) (harg4 : arg4.IsWhole) (arg5 : Memref sig .tc .vmem S32768x2048 .fp8e4m3) (harg5 : arg5.IsWhole) (arg6 : Memref sig .tc .vmem S32768x8192 .bf16) (harg6 : arg6.IsWhole) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (f : BufTy.Contents (Elt F) arg6.view.ty) : sProp 𝕄G :=
  iprop((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} f))

/-- One trip over a query head: the list of the stores it makes. -/
@[irreducible] def trip2 (𝒱 : Variants) (c : Dev nD) (bd : Option 𝒱.V) (arg0 : Memref sig .tc .smem S256x64 .f32) (harg0 : arg0.IsWhole) (arg1 : Memref sig .tc .smem S256x16 .f32) (harg1 : arg1.IsWhole) (arg2 : Memref sig .tc .smem S256x16 .f32) (harg2 : arg2.IsWhole) (arg3 : Memref sig .tc .vmem S32768x8192 .fp8e4m3) (harg3 : arg3.IsWhole) (arg4 : Memref sig .tc .vmem S32768x2048 .fp8e4m3) (harg4 : arg4.IsWhole) (arg5 : Memref sig .tc .vmem S32768x2048 .fp8e4m3) (harg5 : arg5.IsWhole) (arg6 : Memref sig .tc .vmem S32768x8192 .bf16) (harg6 : arg6.IsWhole) (k0_t1 : Fin k0_t1_loop.trips) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (k : Fin k0_t2_loop.trips) :
    { L : List (View.Piece (Elt F) S32768x8192 .bf16) // ∀ (E : Set ℕ) (arg7 : BitVec 32) (acc : PUnit) (f : BufTy.Contents (Elt F) arg6.view.ty),
      Held (F := F) c arg0 harg0 arg1 harg1 arg2 harg2 arg3 harg3 arg4 harg4 arg5 harg5 arg6 harg6 X0 X1 X2 X3 X4 X5 f
      ⊢ wp frame (wpE (defs₀ (F := F)) 𝒱 (c : Thread nD τ) bd) E (k0_t2_body (F := F) arg0 harg0 arg1 harg1 arg2 harg2 arg3 harg3 arg4 harg4 arg5 harg5 arg6 harg6 k0_t1 arg7 k acc)
          (fun _ => Held (F := F) c arg0 harg0 arg1 harg1 arg2 harg2 arg3 harg3 arg4 harg4 arg5 harg5 arg6 harg6 X0 X1 X2 X3 X4 X5 (arg6.view.writes (Elt F) f L)) } := by
  refine ⟨?_, fun E arg7 acc f => ?run⟩
  case run =>
    unfold k0_t2_body
    iintro ⟨H0, H1, H2, H3, H4, H5, H6⟩
    sl_exec
    sl_step
    sl_close

/-- The stores made before trip `k` of the loop over the query heads, newest first. -/
def pb2 (𝒱 : Variants) (c : Dev nD) (bd : Option 𝒱.V) (arg0 : Memref sig .tc .smem S256x64 .f32) (harg0 : arg0.IsWhole) (arg1 : Memref sig .tc .smem S256x16 .f32) (harg1 : arg1.IsWhole) (arg2 : Memref sig .tc .smem S256x16 .f32) (harg2 : arg2.IsWhole) (arg3 : Memref sig .tc .vmem S32768x8192 .fp8e4m3) (harg3 : arg3.IsWhole) (arg4 : Memref sig .tc .vmem S32768x2048 .fp8e4m3) (harg4 : arg4.IsWhole) (arg5 : Memref sig .tc .vmem S32768x2048 .fp8e4m3) (harg5 : arg5.IsWhole) (arg6 : Memref sig .tc .vmem S32768x8192 .bf16) (harg6 : arg6.IsWhole) (k0_t1 : Fin k0_t1_loop.trips) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) : ℕ → List (View.Piece (Elt F) S32768x8192 .bf16)
  | 0 => []
  | k + 1 => (if h : k < k0_t2_loop.trips then (trip2 (F := F) 𝒱 c bd arg0 harg0 arg1 harg1 arg2 harg2 arg3 harg3 arg4 harg4 arg5 harg5 arg6 harg6 k0_t1 X0 X1 X2 X3 X4 X5 ⟨k, h⟩).1 else []) ++ pb2 𝒱 c bd arg0 harg0 arg1 harg1 arg2 harg2 arg3 harg3 arg4 harg4 arg5 harg5 arg6 harg6 k0_t1 X0 X1 X2 X3 X4 X5 k

theorem pb2_succ (𝒱 : Variants) (c : Dev nD) (bd : Option 𝒱.V) (arg0 : Memref sig .tc .smem S256x64 .f32) (harg0 : arg0.IsWhole) (arg1 : Memref sig .tc .smem S256x16 .f32) (harg1 : arg1.IsWhole) (arg2 : Memref sig .tc .smem S256x16 .f32) (harg2 : arg2.IsWhole) (arg3 : Memref sig .tc .vmem S32768x8192 .fp8e4m3) (harg3 : arg3.IsWhole) (arg4 : Memref sig .tc .vmem S32768x2048 .fp8e4m3) (harg4 : arg4.IsWhole) (arg5 : Memref sig .tc .vmem S32768x2048 .fp8e4m3) (harg5 : arg5.IsWhole) (arg6 : Memref sig .tc .vmem S32768x8192 .bf16) (harg6 : arg6.IsWhole) (k0_t1 : Fin k0_t1_loop.trips) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (k : Fin k0_t2_loop.trips) :
    pb2 (F := F) 𝒱 c bd arg0 harg0 arg1 harg1 arg2 harg2 arg3 harg3 arg4 harg4 arg5 harg5 arg6 harg6 k0_t1 X0 X1 X2 X3 X4 X5 (k.val + 1) = (trip2 (F := F) 𝒱 c bd arg0 harg0 arg1 harg1 arg2 harg2 arg3 harg3 arg4 harg4 arg5 harg5 arg6 harg6 k0_t1 X0 X1 X2 X3 X4 X5 k).1 ++ pb2 𝒱 c bd arg0 harg0 arg1 harg1 arg2 harg2 arg3 harg3 arg4 harg4 arg5 harg5 arg6 harg6 k0_t1 X0 X1 X2 X3 X4 X5 k.val := by
  rw [pb2, dif_pos k.isLt]

/-- The invariant of the loop over the query heads. -/
@[sl_loop] def loopInv2 (𝒱 : Variants) (c : Dev nD) (bd : Option 𝒱.V) (E : Set ℕ) (arg0 : Memref sig .tc .smem S256x64 .f32) (harg0 : arg0.IsWhole) (arg1 : Memref sig .tc .smem S256x16 .f32) (harg1 : arg1.IsWhole) (arg2 : Memref sig .tc .smem S256x16 .f32) (harg2 : arg2.IsWhole) (arg3 : Memref sig .tc .vmem S32768x8192 .fp8e4m3) (harg3 : arg3.IsWhole) (arg4 : Memref sig .tc .vmem S32768x2048 .fp8e4m3) (harg4 : arg4.IsWhole) (arg5 : Memref sig .tc .vmem S32768x2048 .fp8e4m3) (harg5 : arg5.IsWhole) (arg6 : Memref sig .tc .vmem S32768x8192 .bf16) (harg6 : arg6.IsWhole) (k0_t1 : Fin k0_t1_loop.trips) (arg7 : BitVec 32) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (f : BufTy.Contents (Elt F) arg6.view.ty) :
    LoopInvTy_k0_t2 (F := F) Unit ℕ (UR sig nD τ) ℕ 𝒱 c bd E arg0 harg0 arg1 harg1 arg2 harg2 arg3 harg3 arg4 harg4 arg5 harg5 arg6 harg6 k0_t1 arg7 where
  inv k _ := Held (F := F) c arg0 harg0 arg1 harg1 arg2 harg2 arg3 harg3 arg4 harg4 arg5 harg5 arg6 harg6 X0 X1 X2 X3 X4 X5 (arg6.view.writes (Elt F) f (pb2 (F := F) 𝒱 c bd arg0 harg0 arg1 harg1 arg2 harg2 arg3 harg3 arg4 harg4 arg5 harg5 arg6 harg6 k0_t1 X0 X1 X2 X3 X4 X5 k))
  step k acc := by
    iintro ⟨H0, H1, H2, H3, H4, H5, H6⟩
    iapply (wp_wand_r Idealize.ShloMosaic.frame (wpE (defs₀ (F := F)) 𝒱 (c : Thread nD τ) bd) E)
    isplitl [H0 H1 H2 H3 H4 H5 H6]
    · iapply ((trip2 (F := F) 𝒱 c bd arg0 harg0 arg1 harg1 arg2 harg2 arg3 harg3 arg4 harg4 arg5 harg5 arg6 harg6 k0_t1 X0 X1 X2 X3 X4 X5 k).2 E arg7 acc (arg6.view.writes (Elt F) f (pb2 (F := F) 𝒱 c bd arg0 harg0 arg1 harg1 arg2 harg2 arg3 harg3 arg4 harg4 arg5 harg5 arg6 harg6 k0_t1 X0 X1 X2 X3 X4 X5 k.val)))
      isplitl [H0]; · iexact H0
      isplitl [H1]; · iexact H1
      isplitl [H2]; · iexact H2
      isplitl [H3]; · iexact H3
      isplitl [H4]; · iexact H4
      isplitl [H5]; · iexact H5
      iexact H6
    · iintro %yld ⟨H0, H1, H2, H3, H4, H5, H6⟩
      rw [pb2_succ, View.writes_append]
      isplitl [H0]; · iexact H0
      isplitl [H1]; · iexact H1
      isplitl [H2]; · iexact H2
      isplitl [H3]; · iexact H3
      isplitl [H4]; · iexact H4
      isplitl [H5]; · iexact H5
      iexact H6

/-- One trip over a query block: the list of the stores it makes. -/
@[irreducible] def trip1 (𝒱 : Variants) (c : Dev nD) (bd : Option 𝒱.V) (arg0 : Memref sig .tc .smem S256x64 .f32) (harg0 : arg0.IsWhole) (arg1 : Memref sig .tc .smem S256x16 .f32) (harg1 : arg1.IsWhole) (arg2 : Memref sig .tc .smem S256x16 .f32) (harg2 : arg2.IsWhole) (arg3 : Memref sig .tc .vmem S32768x8192 .fp8e4m3) (harg3 : arg3.IsWhole) (arg4 : Memref sig .tc .vmem S32768x2048 .fp8e4m3) (harg4 : arg4.IsWhole) (arg5 : Memref sig .tc .vmem S32768x2048 .fp8e4m3) (harg5 : arg5.IsWhole) (arg6 : Memref sig .tc .vmem S32768x8192 .bf16) (harg6 : arg6.IsWhole) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (k : Fin k0_t1_loop.trips) :
    { L : List (View.Piece (Elt F) S32768x8192 .bf16) // ∀ (E : Set ℕ) (acc : PUnit) (f : BufTy.Contents (Elt F) arg6.view.ty),
      Held (F := F) c arg0 harg0 arg1 harg1 arg2 harg2 arg3 harg3 arg4 harg4 arg5 harg5 arg6 harg6 X0 X1 X2 X3 X4 X5 f
      ⊢ wp frame (wpE (defs₀ (F := F)) 𝒱 (c : Thread nD τ) bd) E (k0_t1_body (F := F) arg0 harg0 arg1 harg1 arg2 harg2 arg3 harg3 arg4 harg4 arg5 harg5 arg6 harg6 k acc)
          (fun _ => Held (F := F) c arg0 harg0 arg1 harg1 arg2 harg2 arg3 harg3 arg4 harg4 arg5 harg5 arg6 harg6 X0 X1 X2 X3 X4 X5 (arg6.view.writes (Elt F) f L)) } := by
  refine ⟨?_, fun E acc f => ?run⟩
  case run =>
    unfold k0_t1_body
    iintro ⟨H0, H1, H2, H3, H4, H5, H6⟩
    sl_exec
    sl_step
    sl_close

/-- The stores made before trip `k` of the loop over the query blocks, newest first. -/
def pb1 (𝒱 : Variants) (c : Dev nD) (bd : Option 𝒱.V) (arg0 : Memref sig .tc .smem S256x64 .f32) (harg0 : arg0.IsWhole) (arg1 : Memref sig .tc .smem S256x16 .f32) (harg1 : arg1.IsWhole) (arg2 : Memref sig .tc .smem S256x16 .f32) (harg2 : arg2.IsWhole) (arg3 : Memref sig .tc .vmem S32768x8192 .fp8e4m3) (harg3 : arg3.IsWhole) (arg4 : Memref sig .tc .vmem S32768x2048 .fp8e4m3) (harg4 : arg4.IsWhole) (arg5 : Memref sig .tc .vmem S32768x2048 .fp8e4m3) (harg5 : arg5.IsWhole) (arg6 : Memref sig .tc .vmem S32768x8192 .bf16) (harg6 : arg6.IsWhole) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) : ℕ → List (View.Piece (Elt F) S32768x8192 .bf16)
  | 0 => []
  | k + 1 => (if h : k < k0_t1_loop.trips then (trip1 (F := F) 𝒱 c bd arg0 harg0 arg1 harg1 arg2 harg2 arg3 harg3 arg4 harg4 arg5 harg5 arg6 harg6 X0 X1 X2 X3 X4 X5 ⟨k, h⟩).1 else []) ++ pb1 𝒱 c bd arg0 harg0 arg1 harg1 arg2 harg2 arg3 harg3 arg4 harg4 arg5 harg5 arg6 harg6 X0 X1 X2 X3 X4 X5 k

theorem pb1_succ (𝒱 : Variants) (c : Dev nD) (bd : Option 𝒱.V) (arg0 : Memref sig .tc .smem S256x64 .f32) (harg0 : arg0.IsWhole) (arg1 : Memref sig .tc .smem S256x16 .f32) (harg1 : arg1.IsWhole) (arg2 : Memref sig .tc .smem S256x16 .f32) (harg2 : arg2.IsWhole) (arg3 : Memref sig .tc .vmem S32768x8192 .fp8e4m3) (harg3 : arg3.IsWhole) (arg4 : Memref sig .tc .vmem S32768x2048 .fp8e4m3) (harg4 : arg4.IsWhole) (arg5 : Memref sig .tc .vmem S32768x2048 .fp8e4m3) (harg5 : arg5.IsWhole) (arg6 : Memref sig .tc .vmem S32768x8192 .bf16) (harg6 : arg6.IsWhole) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (k : Fin k0_t1_loop.trips) :
    pb1 (F := F) 𝒱 c bd arg0 harg0 arg1 harg1 arg2 harg2 arg3 harg3 arg4 harg4 arg5 harg5 arg6 harg6 X0 X1 X2 X3 X4 X5 (k.val + 1) = (trip1 (F := F) 𝒱 c bd arg0 harg0 arg1 harg1 arg2 harg2 arg3 harg3 arg4 harg4 arg5 harg5 arg6 harg6 X0 X1 X2 X3 X4 X5 k).1 ++ pb1 𝒱 c bd arg0 harg0 arg1 harg1 arg2 harg2 arg3 harg3 arg4 harg4 arg5 harg5 arg6 harg6 X0 X1 X2 X3 X4 X5 k.val := by
  rw [pb1, dif_pos k.isLt]

/-- The invariant of the loop over the query blocks. -/
@[sl_loop] def loopInv1 (𝒱 : Variants) (c : Dev nD) (bd : Option 𝒱.V) (E : Set ℕ) (arg0 : Memref sig .tc .smem S256x64 .f32) (harg0 : arg0.IsWhole) (arg1 : Memref sig .tc .smem S256x16 .f32) (harg1 : arg1.IsWhole) (arg2 : Memref sig .tc .smem S256x16 .f32) (harg2 : arg2.IsWhole) (arg3 : Memref sig .tc .vmem S32768x8192 .fp8e4m3) (harg3 : arg3.IsWhole) (arg4 : Memref sig .tc .vmem S32768x2048 .fp8e4m3) (harg4 : arg4.IsWhole) (arg5 : Memref sig .tc .vmem S32768x2048 .fp8e4m3) (harg5 : arg5.IsWhole) (arg6 : Memref sig .tc .vmem S32768x8192 .bf16) (harg6 : arg6.IsWhole) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (f : BufTy.Contents (Elt F) arg6.view.ty) :
    LoopInvTy_k0_t1 (F := F) Unit ℕ (UR sig nD τ) ℕ 𝒱 c bd E arg0 harg0 arg1 harg1 arg2 harg2 arg3 harg3 arg4 harg4 arg5 harg5 arg6 harg6 where
  inv k _ := Held (F := F) c arg0 harg0 arg1 harg1 arg2 harg2 arg3 harg3 arg4 harg4 arg5 harg5 arg6 harg6 X0 X1 X2 X3 X4 X5 (arg6.view.writes (Elt F) f (pb1 (F := F) 𝒱 c bd arg0 harg0 arg1 harg1 arg2 harg2 arg3 harg3 arg4 harg4 arg5 harg5 arg6 harg6 X0 X1 X2 X3 X4 X5 k))
  step k acc := by
    iintro ⟨H0, H1, H2, H3, H4, H5, H6⟩
    iapply (wp_wand_r Idealize.ShloMosaic.frame (wpE (defs₀ (F := F)) 𝒱 (c : Thread nD τ) bd) E)
    isplitl [H0 H1 H2 H3 H4 H5 H6]
    · iapply ((trip1 (F := F) 𝒱 c bd arg0 harg0 arg1 harg1 arg2 harg2 arg3 harg3 arg4 harg4 arg5 harg5 arg6 harg6 X0 X1 X2 X3 X4 X5 k).2 E acc (arg6.view.writes (Elt F) f (pb1 (F := F) 𝒱 c bd arg0 harg0 arg1 harg1 arg2 harg2 arg3 harg3 arg4 harg4 arg5 harg5 arg6 harg6 X0 X1 X2 X3 X4 X5 k.val)))
      isplitl [H0]; · iexact H0
      isplitl [H1]; · iexact H1
      isplitl [H2]; · iexact H2
      isplitl [H3]; · iexact H3
      isplitl [H4]; · iexact H4
      isplitl [H5]; · iexact H5
      iexact H6
    · iintro %yld ⟨H0, H1, H2, H3, H4, H5, H6⟩
      rw [pb1_succ, View.writes_append]
      isplitl [H0]; · iexact H0
      isplitl [H1]; · iexact H1
      isplitl [H2]; · iexact H2
      isplitl [H3]; · iexact H3
      isplitl [H4]; · iexact H4
      isplitl [H5]; · iexact H5
      iexact H6

end Cert.ReferenceIdeal.Hand

end
-- ==== Proof.RefStep.lean ====
/-
  One step of the reference's loop over the key blocks, read at an index on the extended reals: the step of `Spec.lean`.
-/
module

public import proofs.«01_k».proof.Proof.Spec
public import proofs.«01_k».proof.Proof.RefLoops
public import Idealize.ShloMosaic.Lib.Pointwise

@[expose] public section

set_option maxRecDepth 16384
set_option maxHeartbeats 1000000

noncomputable section

namespace Cert.ReferenceIdeal.Hand

open Cert.ReferenceIdeal Cert.ReferenceIdeal.Gen Cert.Attn
open Idealize.ShloMosaic

section Step

variable (k0_t1 : Fin k0_t1_loop.trips) (v8 : FVec Ideal S128x128 .fp8e4m3) (v12 : IVec S128x128 32) (v15 : Elt Ideal .f32)
  (k0_t3 : Fin (k0_t3_loop k0_t1).trips) (m l : FVec Ideal S128x1 .f32) (v39 : Vec Ideal S128x128 .fp8e4m3) (v50 : Elt Ideal .f32)

/-- The scores of the step. -/
def scR (r c : Fin 128) : EReal := k0_pay10 (F := Ideal) k0_t1 v8 v12 v15 0#32 1#32 k0_t3 v39 v50 (ix2 r c)

theorem pay11_apply (r : Fin 128) : k0_pay11 (F := Ideal) k0_t1 v8 v12 v15 0#32 1#32 k0_t3 m v39 v50 (ix2 r 0)
    = mNew (m (ix2 r 0)) (scR k0_t1 v8 v12 v15 k0_t3 v39 v50 r) := by
  pointwise [k0_pay11]
  rw [ofBits_negInf]
  rfl

theorem pay12_apply (r : Fin 128) : k0_pay12 (F := Ideal) k0_t1 v8 v12 v15 0#32 1#32 k0_t3 m v39 v50 (ix2 r 0)
    = aRow (m (ix2 r 0)) (scR k0_t1 v8 v12 v15 k0_t3 v39 v50 r) := by
  pointwise [k0_pay12]
  rw [pay11_apply]
  rfl

theorem pay13_apply (r c : Fin 128) : k0_pay13 (F := Ideal) k0_t1 v8 v12 v15 0#32 1#32 k0_t3 m v39 v50 (ix2 r c)
    = pRow (m (ix2 r 0)) (scR k0_t1 v8 v12 v15 k0_t3 v39 v50 r) c := by
  pointwise [k0_pay13]
  rw [pay11_apply]
  rfl

theorem pay14_apply (r : Fin 128) : k0_pay14 (F := Ideal) k0_t1 v8 v12 v15 0#32 1#32 k0_t3 m l v39 v50 (ix2 r 0)
    = lNew (m (ix2 r 0)) (l (ix2 r 0)) (scR k0_t1 v8 v12 v15 k0_t3 v39 v50 r) := by
  pointwise [k0_pay14]
  simp only [pay12_apply, pay13_apply]
  rfl

/-- The weights of the step. -/
def pR (r c : Fin 128) : EReal := pRow (m (ix2 r 0)) (scR k0_t1 v8 v12 v15 k0_t3 v39 v50 r) c

theorem pay15_apply : k0_pay15 (F := Ideal) k0_t1 v8 v12 v15 0#32 1#32 k0_t3 m v39 v50 (ix2 0 0)
    = tmax (pR k0_t1 v8 v12 v15 k0_t3 m v39 v50) := by
  pointwise [k0_pay15]
  simp only [ofBits_negInf, pay13_apply, Ideal.absf_def, abs_of_nonneg _ (pRow_nonneg _ _ _)]
  rfl

theorem pay16_apply : k0_pay16 (F := Ideal) k0_t1 v8 v12 v15 0#32 1#32 k0_t3 m v39 v50 (ix2 0 0)
    = tmax (pR k0_t1 v8 v12 v15 k0_t3 m v39 v50) * (c448 : EReal) := by
  pointwise [k0_pay16]
  rw [pay15_apply, ofBits_c448]

/-- The exponent of the scale: by the number of powers of two that are at most `y`, zero for the zero tile. -/
def eR (A y : EReal) : BitVec 32 :=
  if A = 0 then 0#32 else
    IntOp.subi (Finset.fold IntOp.addi (0#32)
      (fun x : Fin 254 => BitVec.setWidth 32 (BitVec.ofBool (decide (Ideal.exp2 ((((IntOp.subi (BitVec.ofNat 32 x.val) 126#32).toInt : ℝ)) : EReal) ≤ y))))
      Finset.univ) 126#32

theorem pay6_apply (a : FVec Ideal S128x128 .f32) (v46 : FVec Ideal S128x128 .fp8e4m3) (v66 : FVec Ideal S128x1 .f32) (v69 : FVec Ideal S128x128 .f32)
    (v78 v80 : FVec Ideal S1x1 .f32) (v114 : Elt Ideal .f32) (r d : Fin 128) :
    k0_pay6 (F := Ideal) a v46 v66 v69 v78 v80 v114 (ix2 r d)
      = a (ix2 r d) * v66 (ix2 r 0)
        + (∑ c : Fin 128, min ((448 : ℝ) : EReal) (max ((-448 : ℝ) : EReal)
            (v69 (ix2 r c) * Ideal.exp2 (0 - (((eR (v78 (ix2 0 0)) (v80 (ix2 0 0))).toInt : ℝ) : EReal)))) * v46 (ix2 c d))
          * (Ideal.exp2 (((eR (v78 (ix2 0 0)) (v80 (ix2 0 0))).toInt : ℝ) : EReal) * v114) := by
  pointwise [k0_pay6]
  rw [ofBits_448, ofBits_neg448]
  rfl

/-- The scale is a positive real number, its inverse the factor on the weights, and large enough that no code is clipped. -/
theorem eR_scale (p : Fin 128 → Fin 128 → EReal) (h0 : ∀ r c, 0 ≤ p r c) (h1 : ∀ r c, p r c ≤ 1) :
    ∃ x : ℝ, 0 < x ∧ (∀ r c, p r c ≤ ((448 * x : ℝ) : EReal))
      ∧ Ideal.exp2 (((eR (tmax p) (tmax p * (c448 : EReal))).toInt : ℝ) : EReal) = (x : EReal)
      ∧ Ideal.exp2 (0 - (((eR (tmax p) (tmax p * (c448 : EReal))).toInt : ℝ) : EReal)) = ((x⁻¹ : ℝ) : EReal) := by
  have hA1 : tmax p ≤ 1 := tmax_le p 1 h1
  have hA0 : 0 ≤ tmax p := (h0 0 0).trans (le_tmax p 0 0)
  have hle := le_tmax p
  generalize tmax p = A at *
  lift A to ℝ using ⟨ne_top_of_le_ne_top (EReal.coe_ne_top 1) hA1, by rintro rfl; simp at hA0⟩
  have hA1' : A ≤ 1 := by exact_mod_cast hA1
  have hA0' : 0 ≤ A := by exact_mod_cast hA0
  have key : ∀ t : ℤ, A ≤ 448 * (2 : ℝ) ^ t → (eR (A : EReal) ((A : EReal) * (c448 : EReal))).toInt = t →
      ∃ x : ℝ, 0 < x ∧ (∀ r c, p r c ≤ ((448 * x : ℝ) : EReal))
      ∧ Ideal.exp2 (((eR (A : EReal) ((A : EReal) * (c448 : EReal))).toInt : ℝ) : EReal) = (x : EReal)
      ∧ Ideal.exp2 (0 - (((eR (A : EReal) ((A : EReal) * (c448 : EReal))).toInt : ℝ) : EReal)) = ((x⁻¹ : ℝ) : EReal) := by
    intro t ht he
    refine ⟨(2 : ℝ) ^ t, by positivity, fun r c => (hle r c).trans (by exact_mod_cast ht), ?_, ?_⟩
    · rw [he, Ideal.exp2_coe]; exact congrArg _ (Real.rpow_intCast 2 t)
    · rw [he, zero_sub, ← EReal.coe_neg, Ideal.exp2_coe]
      refine congrArg _ ?_
      show (2 : ℝ) ^ (-(t : ℝ)) = _
      rw [Real.rpow_neg (by norm_num), Real.rpow_intCast]
  by_cases hz : A = 0
  · refine key 0 (by rw [hz]; norm_num) ?_
    rw [eR, if_pos (by exact_mod_cast hz)]; rfl
  · have hw : ∀ j : Fin 254, (IntOp.subi (BitVec.ofNat 32 j.val) 126#32).toInt = (j.val : ℤ) - 126 := by decide +kernel
    have hP : ∀ j : Fin 254, (BitVec.ofBool (decide (Ideal.exp2 ((((IntOp.subi (BitVec.ofNat 32 j.val) 126#32).toInt : ℝ)) : EReal) ≤ (A : EReal) * (c448 : EReal))) = 1#1)
        ↔ 0 ≤ j.val ∧ (2 : ℝ) ^ ((j.val : ℤ) - 126) ≤ A * c448 := by
      intro j
      have h : Ideal.exp2 ((((IntOp.subi (BitVec.ofNat 32 j.val) 126#32).toInt : ℝ)) : EReal) ≤ (A : EReal) * (c448 : EReal)
          ↔ (2 : ℝ) ^ ((j.val : ℤ) - 126) ≤ A * c448 := by
        rw [hw, Ideal.exp2_coe, show Real.rpow 2 (((j.val : ℤ) - 126 : ℤ) : ℝ) = (2 : ℝ) ^ ((j.val : ℤ) - 126) from Real.rpow_intCast 2 _,
          ← EReal.coe_mul, EReal.coe_le_coe_iff]
      rw [WordArith.ofBool_eq_one_iff, decide_eq_true_iff, h]
      simp
    have hy : A * c448 < (2 : ℝ) ^ (((126 : ℕ) : ℤ) - 126) := by norm_num [c448]; linarith
    obtain ⟨hN, hb⟩ := count_bound 254 0 126 (A * c448) _ hP 126 (by omega) (by omega) hy
    refine key (((Finset.univ.filter fun j : Fin 254 => BitVec.ofBool (decide (Ideal.exp2 ((((IntOp.subi (BitVec.ofNat 32 j.val) 126#32).toInt : ℝ)) : EReal) ≤ (A : EReal) * (c448 : EReal))) = 1#1).card : ℤ) - 126) ?_ ?_
    · rw [zero_add] at hb
      have : A ≤ 448 * (A * c448) := by norm_num [c448]; linarith
      linarith
    · rw [eR, if_neg (by exact_mod_cast hz), IndicatorCount.fold_addi_setWidth_eq_card]
      rw [zero_add] at hN
      generalize (Finset.univ.filter fun j : Fin 254 => BitVec.ofBool (decide (Ideal.exp2 ((((IntOp.subi (BitVec.ofNat 32 j.val) 126#32).toInt : ℝ)) : EReal) ≤ (A : EReal) * (c448 : EReal))) = 1#1).card = N at hN
      have : ∀ N : Fin 127, (IntOp.subi (BitVec.ofNat 32 N.val) 126#32).toInt = (N.val : ℤ) - 126 := by decide +kernel
      exact this ⟨N, by omega⟩

/-- The new weighted sum: the codes and their scale do not show. -/
theorem pay6_step (a : FVec Ideal S128x128 .f32) (v45 : Vec Ideal S128x128 .fp8e4m3) (v114 : Elt Ideal .f32) (r d : Fin 128) :
    k0_pay6 (F := Ideal) a (k0_pay9 v45) (k0_pay12 k0_t1 v8 v12 v15 0#32 1#32 k0_t3 m v39 v50) (k0_pay13 k0_t1 v8 v12 v15 0#32 1#32 k0_t3 m v39 v50)
        (k0_pay15 k0_t1 v8 v12 v15 0#32 1#32 k0_t3 m v39 v50) (k0_pay16 k0_t1 v8 v12 v15 0#32 1#32 k0_t3 m v39 v50) v114 (ix2 r d)
      = accNew (m (ix2 r 0)) (a (ix2 r d)) (scR k0_t1 v8 v12 v15 k0_t3 v39 v50 r) (fun c => v45 (ix2 c d)) v114 := by
  rw [pay6_apply, pay12_apply, pay15_apply, pay16_apply]
  obtain ⟨x, hx, hb, e1, e2⟩ := eR_scale (pR k0_t1 v8 v12 v15 k0_t3 m v39 v50) (fun r c => pRow_nonneg _ _ _) (fun r c => pRow_le_one _ _ _)
  rw [e1, e2]
  simp only [pay13_apply]
  have hv : ∀ c, k0_pay9 (F := Ideal) v45 (ix2 c d) = v45 (ix2 c d) := by intro c; pointwise [k0_pay9]
  simp only [hv]
  exact congrArg (_ + ·) (requant (pR k0_t1 v8 v12 v15 k0_t3 m v39 v50 r) (fun c => v45 (ix2 c d)) v114 x hx (fun c => pRow_nonneg _ _ _) (hb r))

/-- The score at row `r` and column `c`. -/
theorem scR_apply (i j : ℕ) (hi : i < 256) (hj : j < 256) (h1 : k0_t1.val = i) (h3 : k0_t3.val = j) (r c : Fin 128) :
    scR k0_t1 v8 (k0_pay2 k0_t1) v15 k0_t3 v39 v50 r c
      = score (fun x => v8 (ix2 r x)) (fun x => v39 (ix2 c x)) (v15 * v50) i j r c := by
  unfold scR
  pointwise [k0_pay10, k0_pay2]
  rw [h1, h3]
  unfold score
  by_cases h : 128 * j + c.val ≤ 128 * i + r.val
  · rw [if_pos h, (mask_word i j r c hi hj r.isLt c.isLt).mpr h]; rfl
  · rw [if_neg h]
    exact if_neg (fun hh => h ((mask_word i j r c hi hj r.isLt c.isLt).mp hh))

end Step

end Cert.ReferenceIdeal.Hand

end
-- ==== Proof.RefRun.lean ====
/-
  The run of the reference's one call: what its loops store covers the result, so the result is a function of the
  operands (`outR`); the frame of the reference program, and the value its run leaves in the result array.
-/
module

public import proofs.«01_k».proof.Proof.RefLoops
public import proofs.«01_k».proof.Proof.Gen.ReferenceIdeal.Frame
public import proofs.«01_k».proof.Proof.Gen.ReferenceIdeal.Points
public import proofs.«01_k».proof.Proof.Gen.ReferenceIdeal.Launch
public import Idealize.ShloMosaic.Lib.Claim
public import Idealize.ShloMosaic.Lib.Pipeline.Value

@[expose] public section

set_option maxRecDepth 16384
set_option maxHeartbeats 4000000

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The stores -/

/-- The carried value of the loop over the key blocks, after all of them. -/
def accR (𝒱 : Variants) (c : Dev nD) (bd : Option 𝒱.V) (arg0 : Memref sig .tc .smem S256x64 .f32) (harg0 : arg0.IsWhole) (arg1 : Memref sig .tc .smem S256x16 .f32) (harg1 : arg1.IsWhole) (arg2 : Memref sig .tc .smem S256x16 .f32) (harg2 : arg2.IsWhole) (arg3 : Memref sig .tc .vmem S32768x8192 .fp8e4m3) (harg3 : arg3.IsWhole) (arg4 : Memref sig .tc .vmem S32768x2048 .fp8e4m3) (harg4 : arg4.IsWhole) (arg5 : Memref sig .tc .vmem S32768x2048 .fp8e4m3) (harg5 : arg5.IsWhole) (arg6 : Memref sig .tc .vmem S32768x8192 .bf16) (harg6 : arg6.IsWhole) (k0_t1 : Fin k0_t1_loop.trips) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (k : Fin k0_t2_loop.trips) :
    FVec F S128x1 .f32 × FVec F S128x1 .f32 × FVec F S128x128 .f32 :=
  st_k0_t3 (F := F) 𝒱 c bd arg0 harg0 arg1 harg1 arg2 harg2 arg3 harg3 arg4 harg4 arg5 harg5 arg6 harg6 k0_t1 k (trip2.sl.v2 k)
    (View.readAt (Elt F) arg3.view (Rect.unit (s := S32768x8192) (k0_off1 k0_t1 k) S128x128.size (k0_off1_inb k0_t1 k)).toLoadRect X3)
    (trip2.sl.r arg0 k0_t1 X0 k) X1 X2 X4 X5 (k0_pay3, k0_pay4, k0_pay5) (k0_t3_loop k0_t1).trips

theorem trip2_val (𝒱 : Variants) (c : Dev nD) (bd : Option 𝒱.V) (arg0 : Memref sig .tc .smem S256x64 .f32) (harg0 : arg0.IsWhole) (arg1 : Memref sig .tc .smem S256x16 .f32) (harg1 : arg1.IsWhole) (arg2 : Memref sig .tc .smem S256x16 .f32) (harg2 : arg2.IsWhole) (arg3 : Memref sig .tc .vmem S32768x8192 .fp8e4m3) (harg3 : arg3.IsWhole) (arg4 : Memref sig .tc .vmem S32768x2048 .fp8e4m3) (harg4 : arg4.IsWhole) (arg5 : Memref sig .tc .vmem S32768x2048 .fp8e4m3) (harg5 : arg5.IsWhole) (arg6 : Memref sig .tc .vmem S32768x8192 .bf16) (harg6 : arg6.IsWhole) (k0_t1 : Fin k0_t1_loop.trips) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (k : Fin k0_t2_loop.trips) :
    (trip2 (F := F) 𝒱 c bd arg0 harg0 arg1 harg1 arg2 harg2 arg3 harg3 arg4 harg4 arg5 harg5 arg6 harg6 k0_t1 X0 X1 X2 X3 X4 X5 k).1 =
      [⟨Rect.unit (s := S32768x8192) (k0_off1 k0_t1 k) S128x128.size (k0_off1_inb k0_t1 k),
        k0_pay8 (accR (F := F) 𝒱 c bd arg0 harg0 arg1 harg1 arg2 harg2 arg3 harg3 arg4 harg4 arg5 harg5 arg6 harg6 k0_t1 X0 X1 X2 X3 X4 X5 k).2.1 (accR (F := F) 𝒱 c bd arg0 harg0 arg1 harg1 arg2 harg2 arg3 harg3 arg4 harg4 arg5 harg5 arg6 harg6 k0_t1 X0 X1 X2 X3 X4 X5 k).2.2⟩] := by
  rw [trip2.eq_1]; rfl

theorem trip1_val (𝒱 : Variants) (c : Dev nD) (bd : Option 𝒱.V) (arg0 : Memref sig .tc .smem S256x64 .f32) (harg0 : arg0.IsWhole) (arg1 : Memref sig .tc .smem S256x16 .f32) (harg1 : arg1.IsWhole) (arg2 : Memref sig .tc .smem S256x16 .f32) (harg2 : arg2.IsWhole) (arg3 : Memref sig .tc .vmem S32768x8192 .fp8e4m3) (harg3 : arg3.IsWhole) (arg4 : Memref sig .tc .vmem S32768x2048 .fp8e4m3) (harg4 : arg4.IsWhole) (arg5 : Memref sig .tc .vmem S32768x2048 .fp8e4m3) (harg5 : arg5.IsWhole) (arg6 : Memref sig .tc .vmem S32768x8192 .bf16) (harg6 : arg6.IsWhole) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (k : Fin k0_t1_loop.trips) :
    (trip1 (F := F) 𝒱 c bd arg0 harg0 arg1 harg1 arg2 harg2 arg3 harg3 arg4 harg4 arg5 harg5 arg6 harg6 X0 X1 X2 X3 X4 X5 k).1 = pb2 (F := F) 𝒱 c bd arg0 harg0 arg1 harg1 arg2 harg2 arg3 harg3 arg4 harg4 arg5 harg5 arg6 harg6 k X0 X1 X2 X3 X4 X5 k0_t2_loop.trips := by
  rw [trip1.eq_1]

theorem trips1 : k0_t1_loop.trips = 256 := by decide +kernel
theorem trips2 : k0_t2_loop.trips = 64 := by decide +kernel

/-- Where the tile of query block `i` and head `n` lies. -/
theorem off1_val (i : Fin k0_t1_loop.trips) (n : Fin k0_t2_loop.trips) : k0_off1 i n = ![128 * i.val, 128 * n.val] := by
  have h0 : ∀ i : Fin k0_t1_loop.trips, ∀ n : Fin k0_t2_loop.trips, k0_off1 i n = ![k0_off1 i ⟨0, by decide⟩ 0, k0_off1 ⟨0, by decide⟩ n 1] := by
    intro i n; funext a; fin_cases a
    · rfl
    · rfl
  have h1 : ∀ i : Fin k0_t1_loop.trips, k0_off1 i ⟨0, by decide⟩ 0 = 128 * i.val := by decide +kernel
  have h2 : ∀ n : Fin k0_t2_loop.trips, k0_off1 ⟨0, by decide⟩ n 1 = 128 * n.val := by decide +kernel
  rw [h0, h1, h2]

/-- Every store before trip `k` of the loop over the heads is the tile of some head. -/
theorem mem_pb2 (𝒱 : Variants) (c : Dev nD) (bd : Option 𝒱.V) (arg0 : Memref sig .tc .smem S256x64 .f32) (harg0 : arg0.IsWhole) (arg1 : Memref sig .tc .smem S256x16 .f32) (harg1 : arg1.IsWhole) (arg2 : Memref sig .tc .smem S256x16 .f32) (harg2 : arg2.IsWhole) (arg3 : Memref sig .tc .vmem S32768x8192 .fp8e4m3) (harg3 : arg3.IsWhole) (arg4 : Memref sig .tc .vmem S32768x2048 .fp8e4m3) (harg4 : arg4.IsWhole) (arg5 : Memref sig .tc .vmem S32768x2048 .fp8e4m3) (harg5 : arg5.IsWhole) (arg6 : Memref sig .tc .vmem S32768x8192 .bf16) (harg6 : arg6.IsWhole) (k0_t1 : Fin k0_t1_loop.trips) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (p : View.Piece (Elt F) S32768x8192 .bf16) (k : ℕ) :
    p ∈ pb2 (F := F) 𝒱 c bd arg0 harg0 arg1 harg1 arg2 harg2 arg3 harg3 arg4 harg4 arg5 harg5 arg6 harg6 k0_t1 X0 X1 X2 X3 X4 X5 k ↔ ∃ n : Fin k0_t2_loop.trips, n.val < k ∧ p ∈ (trip2 (F := F) 𝒱 c bd arg0 harg0 arg1 harg1 arg2 harg2 arg3 harg3 arg4 harg4 arg5 harg5 arg6 harg6 k0_t1 X0 X1 X2 X3 X4 X5 n).1 := by
  induction k with
  | zero => simp [pb2]
  | succ k ih =>
    rw [pb2, List.mem_append, ih]
    constructor
    · rintro (h | ⟨n, hn, h⟩)
      · by_cases hk : k < k0_t2_loop.trips
        · rw [dif_pos hk] at h; exact ⟨⟨k, hk⟩, Nat.lt_succ_self _, h⟩
        · rw [dif_neg hk] at h; exact absurd h List.not_mem_nil
      · exact ⟨n, Nat.lt_succ_of_lt hn, h⟩
    · rintro ⟨n, hn, h⟩
      rcases Nat.lt_succ_iff_lt_or_eq.mp hn with h' | h'
      · exact .inr ⟨n, h', h⟩
      · subst h'; left; rw [dif_pos n.isLt]; exact h

/-- Every store before trip `k` of the loop over the query blocks is the tile of some block and head. -/
theorem mem_pb1 (𝒱 : Variants) (c : Dev nD) (bd : Option 𝒱.V) (arg0 : Memref sig .tc .smem S256x64 .f32) (harg0 : arg0.IsWhole) (arg1 : Memref sig .tc .smem S256x16 .f32) (harg1 : arg1.IsWhole) (arg2 : Memref sig .tc .smem S256x16 .f32) (harg2 : arg2.IsWhole) (arg3 : Memref sig .tc .vmem S32768x8192 .fp8e4m3) (harg3 : arg3.IsWhole) (arg4 : Memref sig .tc .vmem S32768x2048 .fp8e4m3) (harg4 : arg4.IsWhole) (arg5 : Memref sig .tc .vmem S32768x2048 .fp8e4m3) (harg5 : arg5.IsWhole) (arg6 : Memref sig .tc .vmem S32768x8192 .bf16) (harg6 : arg6.IsWhole) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (p : View.Piece (Elt F) S32768x8192 .bf16) (k : ℕ) :
    p ∈ pb1 (F := F) 𝒱 c bd arg0 harg0 arg1 harg1 arg2 harg2 arg3 harg3 arg4 harg4 arg5 harg5 arg6 harg6 X0 X1 X2 X3 X4 X5 k ↔ ∃ i : Fin k0_t1_loop.trips, i.val < k ∧ p ∈ (trip1 (F := F) 𝒱 c bd arg0 harg0 arg1 harg1 arg2 harg2 arg3 harg3 arg4 harg4 arg5 harg5 arg6 harg6 X0 X1 X2 X3 X4 X5 i).1 := by
  induction k with
  | zero => simp [pb1]
  | succ k ih =>
    rw [pb1, List.mem_append, ih]
    constructor
    · rintro (h | ⟨n, hn, h⟩)
      · by_cases hk : k < k0_t1_loop.trips
        · rw [dif_pos hk] at h; exact ⟨⟨k, hk⟩, Nat.lt_succ_self _, h⟩
        · rw [dif_neg hk] at h; exact absurd h List.not_mem_nil
      · exact ⟨n, Nat.lt_succ_of_lt hn, h⟩
    · rintro ⟨n, hn, h⟩
      rcases Nat.lt_succ_iff_lt_or_eq.mp hn with h' | h'
      · exact .inr ⟨n, h', h⟩
      · subst h'; left; rw [dif_pos n.isLt]; exact h

/-- The tile of query block `i` and head `n`, with its place. -/
def tileR (𝒱 : Variants) (c : Dev nD) (bd : Option 𝒱.V) (arg0 : Memref sig .tc .smem S256x64 .f32) (harg0 : arg0.IsWhole) (arg1 : Memref sig .tc .smem S256x16 .f32) (harg1 : arg1.IsWhole) (arg2 : Memref sig .tc .smem S256x16 .f32) (harg2 : arg2.IsWhole) (arg3 : Memref sig .tc .vmem S32768x8192 .fp8e4m3) (harg3 : arg3.IsWhole) (arg4 : Memref sig .tc .vmem S32768x2048 .fp8e4m3) (harg4 : arg4.IsWhole) (arg5 : Memref sig .tc .vmem S32768x2048 .fp8e4m3) (harg5 : arg5.IsWhole) (arg6 : Memref sig .tc .vmem S32768x8192 .bf16) (harg6 : arg6.IsWhole) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (i : Fin k0_t1_loop.trips) (n : Fin k0_t2_loop.trips) : View.Piece (Elt F) S32768x8192 .bf16 :=
  ⟨Rect.unit (s := S32768x8192) (k0_off1 i n) S128x128.size (k0_off1_inb i n),
    k0_pay8 (accR (F := F) 𝒱 c bd arg0 harg0 arg1 harg1 arg2 harg2 arg3 harg3 arg4 harg4 arg5 harg5 arg6 harg6 i X0 X1 X2 X3 X4 X5 n).2.1 (accR (F := F) 𝒱 c bd arg0 harg0 arg1 harg1 arg2 harg2 arg3 harg3 arg4 harg4 arg5 harg5 arg6 harg6 i X0 X1 X2 X3 X4 X5 n).2.2⟩

/-- The stores of the whole call are the tiles of all query blocks and heads. -/
theorem mem_all (𝒱 : Variants) (c : Dev nD) (bd : Option 𝒱.V) (arg0 : Memref sig .tc .smem S256x64 .f32) (harg0 : arg0.IsWhole) (arg1 : Memref sig .tc .smem S256x16 .f32) (harg1 : arg1.IsWhole) (arg2 : Memref sig .tc .smem S256x16 .f32) (harg2 : arg2.IsWhole) (arg3 : Memref sig .tc .vmem S32768x8192 .fp8e4m3) (harg3 : arg3.IsWhole) (arg4 : Memref sig .tc .vmem S32768x2048 .fp8e4m3) (harg4 : arg4.IsWhole) (arg5 : Memref sig .tc .vmem S32768x2048 .fp8e4m3) (harg5 : arg5.IsWhole) (arg6 : Memref sig .tc .vmem S32768x8192 .bf16) (harg6 : arg6.IsWhole) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (p : View.Piece (Elt F) S32768x8192 .bf16) :
    p ∈ pb1 (F := F) 𝒱 c bd arg0 harg0 arg1 harg1 arg2 harg2 arg3 harg3 arg4 harg4 arg5 harg5 arg6 harg6 X0 X1 X2 X3 X4 X5 k0_t1_loop.trips ↔ ∃ i n, p = tileR (F := F) 𝒱 c bd arg0 harg0 arg1 harg1 arg2 harg2 arg3 harg3 arg4 harg4 arg5 harg5 arg6 harg6 X0 X1 X2 X3 X4 X5 i n := by
  rw [mem_pb1]
  constructor
  · rintro ⟨i, -, h⟩
    rw [trip1_val, mem_pb2] at h
    obtain ⟨n, -, h⟩ := h
    rw [trip2_val] at h
    exact ⟨i, n, List.mem_singleton.mp h⟩
  · rintro ⟨i, n, rfl⟩
    refine ⟨i, i.isLt, ?_⟩
    rw [trip1_val, mem_pb2]
    refine ⟨n, n.isLt, ?_⟩
    rw [trip2_val]; exact List.mem_singleton.mpr rfl

theorem mem_tile (𝒱 : Variants) (c : Dev nD) (bd : Option 𝒱.V) (arg0 : Memref sig .tc .smem S256x64 .f32) (harg0 : arg0.IsWhole) (arg1 : Memref sig .tc .smem S256x16 .f32) (harg1 : arg1.IsWhole) (arg2 : Memref sig .tc .smem S256x16 .f32) (harg2 : arg2.IsWhole) (arg3 : Memref sig .tc .vmem S32768x8192 .fp8e4m3) (harg3 : arg3.IsWhole) (arg4 : Memref sig .tc .vmem S32768x2048 .fp8e4m3) (harg4 : arg4.IsWhole) (arg5 : Memref sig .tc .vmem S32768x2048 .fp8e4m3) (harg5 : arg5.IsWhole) (arg6 : Memref sig .tc .vmem S32768x8192 .bf16) (harg6 : arg6.IsWhole) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (i : Fin k0_t1_loop.trips) (n : Fin k0_t2_loop.trips) (y : S32768x8192.Idx) :
    y ∈ (tileR (F := F) 𝒱 c bd arg0 harg0 arg1 harg1 arg2 harg2 arg3 harg3 arg4 harg4 arg5 harg5 arg6 harg6 X0 X1 X2 X3 X4 X5 i n).1.set ↔ i.val = (y 0).val / 128 ∧ n.val = (y 1).val / 128 := by
  show y ∈ (Rect.unit (s := S32768x8192) (k0_off1 i n) S128x128.size (k0_off1_inb i n)).set ↔ _
  rw [Rect.mem_set_unit, off1_val]
  constructor
  · intro h
    have h0 : 128 * i.val ≤ (y 0).val ∧ (y 0).val < 128 * i.val + 128 := h 0
    have h1 : 128 * n.val ≤ (y 1).val ∧ (y 1).val < 128 * n.val + 128 := h 1
    omega
  · rintro ⟨h0, h1⟩ a
    fin_cases a
    · show 128 * i.val ≤ (y 0).val ∧ (y 0).val < 128 * i.val + 128
      omega
    · show 128 * n.val ≤ (y 1).val ∧ (y 1).val < 128 * n.val + 128
      omega

/-- The tiles cover the result. -/
theorem cover_all (𝒱 : Variants) (c : Dev nD) (bd : Option 𝒱.V) (arg0 : Memref sig .tc .smem S256x64 .f32) (harg0 : arg0.IsWhole) (arg1 : Memref sig .tc .smem S256x16 .f32) (harg1 : arg1.IsWhole) (arg2 : Memref sig .tc .smem S256x16 .f32) (harg2 : arg2.IsWhole) (arg3 : Memref sig .tc .vmem S32768x8192 .fp8e4m3) (harg3 : arg3.IsWhole) (arg4 : Memref sig .tc .vmem S32768x2048 .fp8e4m3) (harg4 : arg4.IsWhole) (arg5 : Memref sig .tc .vmem S32768x2048 .fp8e4m3) (harg5 : arg5.IsWhole) (arg6 : Memref sig .tc .vmem S32768x8192 .bf16) (harg6 : arg6.IsWhole) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (y : S32768x8192.Idx) :
    ∃ p ∈ pb1 (F := F) 𝒱 c bd arg0 harg0 arg1 harg1 arg2 harg2 arg3 harg3 arg4 harg4 arg5 harg5 arg6 harg6 X0 X1 X2 X3 X4 X5 k0_t1_loop.trips, y ∈ p.1.set := by
  have h0 : (y 0).val < 32768 := (y 0).isLt
  have h1 : (y 1).val < 8192 := (y 1).isLt
  refine ⟨tileR (F := F) 𝒱 c bd arg0 harg0 arg1 harg1 arg2 harg2 arg3 harg3 arg4 harg4 arg5 harg5 arg6 harg6 X0 X1 X2 X3 X4 X5 ⟨(y 0).val / 128, by rw [trips1]; omega⟩ ⟨(y 1).val / 128, by rw [trips2]; omega⟩, (mem_all ..).mpr ⟨_, _, rfl⟩, ?_⟩
  rw [mem_tile]; exact ⟨rfl, rfl⟩

/-! ## The run -/

/-- The call runs to its end; what it leaves in the result is its tiles over whatever was there. -/
theorem run0 (c : Dev nD) (arg0 : Memref sig .tc .smem S256x64 .f32) (harg0 : arg0.IsWhole) (arg1 : Memref sig .tc .smem S256x16 .f32) (harg1 : arg1.IsWhole) (arg2 : Memref sig .tc .smem S256x16 .f32) (harg2 : arg2.IsWhole) (arg3 : Memref sig .tc .vmem S32768x8192 .fp8e4m3) (harg3 : arg3.IsWhole) (arg4 : Memref sig .tc .vmem S32768x2048 .fp8e4m3) (harg4 : arg4.IsWhole) (arg5 : Memref sig .tc .vmem S32768x2048 .fp8e4m3) (harg5 : arg5.IsWhole) (arg6 : Memref sig .tc .vmem S32768x8192 .bf16) (harg6 : arg6.IsWhole) (x0 : Vec F S256x64 .f32) (x1 : Vec F S256x16 .f32) (x2 : Vec F S256x16 .f32) (x3 : Vec F S32768x8192 .fp8e4m3) (x4 : Vec F S32768x2048 .fp8e4m3) (x5 : Vec F S32768x2048 .fp8e4m3) (E : Set ℕ) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f (pb1 (F := F) Variants.none c none arg0 harg0 arg1 harg1 arg2 harg2 arg3 harg3 arg4 harg4 arg5 harg5 arg6 harg6 (harg0.unread x0) (harg1.unread x1) (harg2.unread x2) (harg3.unread x3) (harg4.unread x4) (harg5.unread x5) k0_t1_loop.trips))) -∗ K ⟨⟩))
      ⊢ wp frame (wpE (defs₀ (F := F)) Variants.none c none) E (cc0_plain_attention arg0 harg0 arg1 harg1 arg2 harg2 arg3 harg3 arg4 harg4 arg5 harg5 arg6 harg6) K := by
  simp only [cc0_plain_attention_eq_skeleton]; unfold cc0_plain_attention_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  obtain rfl := harg0.eq_unread hf0
  obtain rfl := harg1.eq_unread hf1
  obtain rfl := harg2.eq_unread hf2
  obtain rfl := harg3.eq_unread hf3
  obtain rfl := harg4.eq_unread hf4
  obtain rfl := harg5.eq_unread hf5
  sl_exec
  sl_step
  iapply Hk
  isplitl [H0]
  · iexists _; isplitr; · ipureintro; exact harg0.read_unread _
    iexact H0
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; iexact H6

/-- A fixed buffer of the result's shape, to read the stores over. -/
abbrev VR : View sig .tc .vmem S32768x8192 .bf16 := (stage0_6 0).view

/-- What the call leaves in the result, a function of the operands' contents. -/
def outR (c : Dev nD) (arg0 : Memref sig .tc .smem S256x64 .f32) (harg0 : arg0.IsWhole) (arg1 : Memref sig .tc .smem S256x16 .f32) (harg1 : arg1.IsWhole) (arg2 : Memref sig .tc .smem S256x16 .f32) (harg2 : arg2.IsWhole) (arg3 : Memref sig .tc .vmem S32768x8192 .fp8e4m3) (harg3 : arg3.IsWhole) (arg4 : Memref sig .tc .vmem S32768x2048 .fp8e4m3) (harg4 : arg4.IsWhole) (arg5 : Memref sig .tc .vmem S32768x2048 .fp8e4m3) (harg5 : arg5.IsWhole) (arg6 : Memref sig .tc .vmem S32768x8192 .bf16) (harg6 : arg6.IsWhole) (x0 : Vec F S256x64 .f32) (x1 : Vec F S256x16 .f32) (x2 : Vec F S256x16 .f32) (x3 : Vec F S32768x8192 .fp8e4m3) (x4 : Vec F S32768x2048 .fp8e4m3) (x5 : Vec F S32768x2048 .fp8e4m3) : Vec F S32768x8192 .bf16 :=
  VR.read (Elt F) (VR.writes (Elt F) VR.junk (pb1 (F := F) Variants.none c none arg0 harg0 arg1 harg1 arg2 harg2 arg3 harg3 arg4 harg4 arg5 harg5 arg6 harg6 (harg0.unread x0) (harg1.unread x1) (harg2.unread x2) (harg3.unread x3) (harg4.unread x4) (harg5.unread x5) k0_t1_loop.trips))

/-- The result at an index is its tile's entry there. -/
theorem outR_apply (c : Dev nD) (arg0 : Memref sig .tc .smem S256x64 .f32) (harg0 : arg0.IsWhole) (arg1 : Memref sig .tc .smem S256x16 .f32) (harg1 : arg1.IsWhole) (arg2 : Memref sig .tc .smem S256x16 .f32) (harg2 : arg2.IsWhole) (arg3 : Memref sig .tc .vmem S32768x8192 .fp8e4m3) (harg3 : arg3.IsWhole) (arg4 : Memref sig .tc .vmem S32768x2048 .fp8e4m3) (harg4 : arg4.IsWhole) (arg5 : Memref sig .tc .vmem S32768x2048 .fp8e4m3) (harg5 : arg5.IsWhole) (arg6 : Memref sig .tc .vmem S32768x8192 .bf16) (harg6 : arg6.IsWhole) (x0 : Vec F S256x64 .f32) (x1 : Vec F S256x16 .f32) (x2 : Vec F S256x16 .f32) (x3 : Vec F S32768x8192 .fp8e4m3) (x4 : Vec F S32768x2048 .fp8e4m3) (x5 : Vec F S32768x2048 .fp8e4m3) (i : Fin k0_t1_loop.trips) (n : Fin k0_t2_loop.trips) (r : S128x128.Idx) (y : S32768x8192.Idx)
    (h0 : (y 0).val = 128 * i.val + (r 0).val) (h1 : (y 1).val = 128 * n.val + (r 1).val) :
    outR (F := F) c arg0 harg0 arg1 harg1 arg2 harg2 arg3 harg3 arg4 harg4 arg5 harg5 arg6 harg6 x0 x1 x2 x3 x4 x5 y
      = k0_pay8 (accR (F := F) Variants.none c none arg0 harg0 arg1 harg1 arg2 harg2 arg3 harg3 arg4 harg4 arg5 harg5 arg6 harg6 i (harg0.unread x0) (harg1.unread x1) (harg2.unread x2) (harg3.unread x3) (harg4.unread x4) (harg5.unread x5) n).2.1 (accR (F := F) Variants.none c none arg0 harg0 arg1 harg1 arg2 harg2 arg3 harg3 arg4 harg4 arg5 harg5 arg6 harg6 i (harg0.unread x0) (harg1.unread x1) (harg2.unread x2) (harg3.unread x3) (harg4.unread x4) (harg5.unread x5) n).2.2 r := by
  unfold outR
  have hr0 : (r 0).val < 128 := (r 0).isLt
  have hr1 : (r 1).val < 128 := (r 1).isLt
  have hy : (tileR (F := F) Variants.none c none arg0 harg0 arg1 harg1 arg2 harg2 arg3 harg3 arg4 harg4 arg5 harg5 arg6 harg6 (harg0.unread x0) (harg1.unread x1) (harg2.unread x2) (harg3.unread x3) (harg4.unread x4) (harg5.unread x5) i n).1.emb r = y := by
    funext a
    apply Fin.ext
    show (k0_off1 i n) a + 1 * (r a).val = (y a).val
    rw [off1_val]
    fin_cases a
    · show 128 * i.val + 1 * (r 0).val = (y 0).val
      omega
    · show 128 * n.val + 1 * (r 1).val = (y 1).val
      omega
  rw [← hy]
  refine View.read_writes_of_unique VR VR.junk (tileR (F := F) Variants.none c none arg0 harg0 arg1 harg1 arg2 harg2 arg3 harg3 arg4 harg4 arg5 harg5 arg6 harg6 (harg0.unread x0) (harg1.unread x1) (harg2.unread x2) (harg3.unread x3) (harg4.unread x4) (harg5.unread x5) i n) r _ ((mem_all ..).mpr ⟨i, n, rfl⟩) ?_
  intro q hq hy'
  obtain ⟨i', n', rfl⟩ := (mem_all ..).mp hq
  rw [hy, mem_tile] at hy'
  obtain rfl : i' = i := Fin.ext (by omega)
  obtain rfl : n' = n := Fin.ext (by omega)
  rfl

variable (m : (ℓ : Loc nD τ sig) → Buf (Elt F) ℓ) (ρ : Dev nD → PrngReg)

/-- What the result's buffer holds after the call. -/
def outsAtR (c : Dev nD) (t : Fin cfg0.N) : Vec F S32768x8192 .bf16 :=
  outR (F := F) c (st0_0 t) (hstage0_0 0) (st0_1 t) (hstage0_1 0) (st0_2 t) (hstage0_2 0) (st0_3 t) (hstage0_3 0) (st0_4 t) (hstage0_4 0) (st0_5 t) (hstage0_5 0) (st0_6 t) (hstage0_6 0) (iblk m c 0 t) (iblk m c 1 t) (iblk m c 2 t) (iblk m c 3 t) (iblk m c 4 t) (iblk m c 5 t)

/-- The proof data of the one call on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAtR m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAtR m c t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the call is entered with, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  unfold outsAtR
  unfold outR
  iintro ⟨HΦ, Ho, ⟨%d0, H0⟩, ⟨%d1, H1⟩, ⟨%d2, H2⟩, ⟨%d3, H3⟩, ⟨%d4, H4⟩, ⟨%d5, H5⟩, ⟨%d6, H6⟩⟩
  iapply (run0 c _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (fun y => cover_all _ _ _ _ _ _ _ _ _ _ _ _ _ _ _ _ _ _ _ _ _ _ _ y)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every weakly fair execution ends, with the arrays as the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame of the reference program. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.ReferenceIdeal.Hand

end
-- ==== Proof.RefValue.lean ====
/-
  The reference's result on the extended reals: the attention of `Spec.lean`, as a function of the operands.
-/
module

public import proofs.«01_k».proof.Proof.RefStep
public import proofs.«01_k».proof.Proof.RefRun
public import Idealize.ShloMosaic.Lib.WholeRead
public import Idealize.ShloMosaic.Lib.Pipeline.ValueKit

@[expose] public section

set_option maxRecDepth 16384

noncomputable section

namespace Cert.ReferenceIdeal.Hand

open Cert.ReferenceIdeal Cert.ReferenceIdeal.Gen Cert.Attn
open Idealize.ShloMosaic Idealize.ShloMosaic.TcCoe Idealize.SL.Sem

/-! ## Where the loads lie -/

theorem lt256 (i : Fin k0_t1_loop.trips) : i.val < 256 := lt_of_lt_of_eq i.isLt trips1
theorem lt64 (n : Fin k0_t2_loop.trips) : n.val < 64 := lt_of_lt_of_eq n.isLt trips2

theorem trips3 : ∀ i : Fin k0_t1_loop.trips, (k0_t3_loop i).trips = i.val + 1 := by decide +kernel

theorem off2_val (i : Fin k0_t1_loop.trips) (n : Fin k0_t2_loop.trips) : k0_off2 i n = ![i.val, n.val] := by
  have h0 : k0_off2 i n = ![k0_off2 i ⟨0, by decide⟩ 0, k0_off2 ⟨0, by decide⟩ n 1] := by
    funext a; fin_cases a <;> rfl
  have h1 : ∀ i : Fin k0_t1_loop.trips, k0_off2 i ⟨0, by decide⟩ 0 = i.val := by decide +kernel
  have h2 : ∀ n : Fin k0_t2_loop.trips, k0_off2 ⟨0, by decide⟩ n 1 = n.val := by decide +kernel
  rw [h0, h1, h2]

theorem word_blk : ∀ j : Fin 256, (Scalar.indexCast (Scalar.muli (Scf.iv 0#32 1#32 j.val) 128#32)).toNat = 128 * j.val
    ∧ (Scalar.indexCast (Scf.iv 0#32 1#32 j.val)).toNat = j.val := by decide +kernel

theorem word_head : ∀ n : Fin 64, (Scalar.indexCast (Scalar.muli (Scalar.divsi (Scf.iv 0#32 1#32 n.val) 4#32) 128#32)).toNat = 128 * (n.val / 4)
    ∧ (Scalar.indexCast (Scalar.divsi (Scf.iv 0#32 1#32 n.val) 4#32)).toNat = n.val / 4 := by decide +kernel

theorem lt3 (i : Fin k0_t1_loop.trips) (k : Fin (k0_t3_loop i).trips) : k.val < i.val + 1 := lt_of_lt_of_eq k.isLt (trips3 i)

theorem off3_val (i : Fin k0_t1_loop.trips) (n : Fin k0_t2_loop.trips) (k : Fin (k0_t3_loop i).trips) :
    k0_off3 i n k = ![128 * k.val, 128 * (n.val / 4)] := by
  have h1 := (word_blk ⟨k.val, by have := lt3 i k; have := lt256 i; omega⟩).1
  have h2 := (word_head ⟨n.val, lt64 n⟩).1
  funext a; fin_cases a
  · exact h1
  · exact h2

theorem off4_val (i : Fin k0_t1_loop.trips) (n : Fin k0_t2_loop.trips) (k : Fin (k0_t3_loop i).trips) :
    k0_off4 i n k = ![k.val, n.val / 4] := by
  have h1 := (word_blk ⟨k.val, by have := lt3 i k; have := lt256 i; omega⟩).2
  have h2 := (word_head ⟨n.val, lt64 n⟩).2
  funext a; fin_cases a
  · exact h1
  · exact h2

/-- A tile of a matrix of 2048 columns. -/
theorem tile_read {m : Memref sig .tc .vmem S32768x2048 .fp8e4m3} (h : m.IsWhole) (x : Vec Ideal S32768x2048 .fp8e4m3)
    (i : Fin k0_t1_loop.trips) (n : Fin k0_t2_loop.trips) (k : Fin (k0_t3_loop i).trips) (a b : Fin 128) :
    View.readAt (Elt Ideal) m.view (Rect.unit (s := S32768x2048) (k0_off3 i n k) S128x128.size (k0_off3_inb i n k)).toLoadRect (h.unread x) (ix2 a b)
      = x (ix2 (Fin.ofNat 32768 (128 * k.val + a.val)) (Fin.ofNat 2048 (128 * (n.val / 4) + b.val))) := by
  rw [h.readAt_unread]
  refine congrArg x ?_
  have := lt3 i k; have := lt256 i; have := lt64 n
  funext z; fin_cases z
  · apply Fin.ext
    show (k0_off3 i n k) 0 + 1 * a.val = (128 * k.val + a.val) % 32768
    rw [off3_val]
    show 128 * k.val + 1 * a.val = _
    omega
  · apply Fin.ext
    show (k0_off3 i n k) 1 + 1 * b.val = (128 * (n.val / 4) + b.val) % 2048
    rw [off3_val]
    show 128 * (n.val / 4) + 1 * b.val = _
    omega

/-- A block scale of the keys or of the values. -/
theorem scale_read {m : Memref sig .tc .smem S256x16 .f32} (h : m.IsWhole) (x : Vec Ideal S256x16 .f32)
    (i : Fin k0_t1_loop.trips) (n : Fin k0_t2_loop.trips) (k : Fin (k0_t3_loop i).trips) (hf) :
    View.readAt (Elt Ideal) m.view (Rect.unit (s := S256x16) (k0_off4 i n k) S1x1.size (k0_off4_inb i n k)).toLoadRect (h.unread x) (Shape.Idx.first hf)
      = x (ix2 (Fin.ofNat 256 k.val) (Fin.ofNat 16 (n.val / 4))) := by
  rw [h.readAt_unread]
  refine congrArg x ?_
  have := lt3 i k; have := lt256 i; have := lt64 n
  funext z; fin_cases z
  · apply Fin.ext
    show (k0_off4 i n k) 0 + 1 * 0 = k.val % 256
    rw [off4_val]
    show k.val + 1 * 0 = _
    omega
  · apply Fin.ext
    show (k0_off4 i n k) 1 + 1 * 0 = (n.val / 4) % 16
    rw [off4_val]
    show (n.val / 4) + 1 * 0 = _
    omega

/-! ## The loop over the key blocks -/

/-- One trip of the loop over the key blocks. -/
theorem trip3_val (𝒱 : Variants) (c : Dev nD) (bd : Option 𝒱.V) (arg0 : Memref sig .tc .smem S256x64 .f32) (harg0 : arg0.IsWhole) (arg1 : Memref sig .tc .smem S256x16 .f32) (harg1 : arg1.IsWhole) (arg2 : Memref sig .tc .smem S256x16 .f32) (harg2 : arg2.IsWhole) (arg3 : Memref sig .tc .vmem S32768x8192 .fp8e4m3) (harg3 : arg3.IsWhole) (arg4 : Memref sig .tc .vmem S32768x2048 .fp8e4m3) (harg4 : arg4.IsWhole) (arg5 : Memref sig .tc .vmem S32768x2048 .fp8e4m3) (harg5 : arg5.IsWhole) (arg6 : Memref sig .tc .vmem S32768x8192 .bf16) (harg6 : arg6.IsWhole) (k0_t1 : Fin k0_t1_loop.trips) (k0_t2 : Fin k0_t2_loop.trips) (v2 : BitVec 32) (v7 : Vec Ideal S128x128 .fp8e4m3) (v15 : Elt Ideal .f32) (x1 x2 : Vec Ideal S256x16 .f32) (x4 x5 : Vec Ideal S32768x2048 .fp8e4m3) (k : Fin (k0_t3_loop k0_t1).trips)
    (acc : FVec Ideal S128x1 .f32 × FVec Ideal S128x1 .f32 × FVec Ideal S128x128 .f32) (r d : Fin 128) (z : EReal × EReal × EReal)
    (hm : acc.1 (ix2 r 0) = z.1) (hl : acc.2.1 (ix2 r 0) = z.2.1) (ha : acc.2.2 (ix2 r d) = z.2.2) (s : Fin 128 → EReal)
    (hs : ∀ c, score (fun x => v7 (ix2 r x)) (fun x => x4 (ix2 (Fin.ofNat 32768 (128 * k.val + c.val)) (Fin.ofNat 2048 (128 * (k0_t2.val / 4) + x.val))))
      (v15 * x1 (ix2 (Fin.ofNat 256 k.val) (Fin.ofNat 16 (k0_t2.val / 4)))) k0_t1.val k.val r c = s c) :
    (tripR_k0_t3 (F := Ideal) 𝒱 c bd arg0 harg0 arg1 harg1 arg2 harg2 arg3 harg3 arg4 harg4 arg5 harg5 arg6 harg6 k0_t1 k0_t2 v2 v7 v15 (harg1.unread x1) (harg2.unread x2) (harg4.unread x4) (harg5.unread x5) k acc).1 (ix2 r 0) = mNew z.1 s
    ∧ (tripR_k0_t3 (F := Ideal) 𝒱 c bd arg0 harg0 arg1 harg1 arg2 harg2 arg3 harg3 arg4 harg4 arg5 harg5 arg6 harg6 k0_t1 k0_t2 v2 v7 v15 (harg1.unread x1) (harg2.unread x2) (harg4.unread x4) (harg5.unread x5) k acc).2.1 (ix2 r 0) = lNew z.1 z.2.1 s
    ∧ (tripR_k0_t3 (F := Ideal) 𝒱 c bd arg0 harg0 arg1 harg1 arg2 harg2 arg3 harg3 arg4 harg4 arg5 harg5 arg6 harg6 k0_t1 k0_t2 v2 v7 v15 (harg1.unread x1) (harg2.unread x2) (harg4.unread x4) (harg5.unread x5) k acc).2.2 (ix2 r d)
      = accNew z.1 z.2.2 s (fun c => x5 (ix2 (Fin.ofNat 32768 (128 * k.val + c.val)) (Fin.ofNat 2048 (128 * (k0_t2.val / 4) + d.val))))
          (x2 (ix2 (Fin.ofNat 256 k.val) (Fin.ofNat 16 (k0_t2.val / 4)))) := by
  rw [tripR_k0_t3, trip_k0_t3.eq_1]
  dsimp only
  unfold trip_k0_t3.sl.r_2 trip_k0_t3.sl.r_5 trip_k0_t3.sl.r_1 trip_k0_t3.sl.r_3 trip_k0_t3.sl.r_4 trip_k0_t3.sl.r_6 trip_k0_t3.sl.r_7 trip_k0_t3.sl.r_8
  unfold trip_k0_t3.sl.r
  have hi := lt256 k0_t1
  have hk := lt3 k0_t1 k
  have h7 : ∀ x, k0_pay1 (F := Ideal) v7 (ix2 r x) = v7 (ix2 r x) := by intro x; pointwise [k0_pay1]
  have hsc : scR k0_t1 (k0_pay1 v7) (k0_pay2 k0_t1) v15 k
      (View.readAt (Elt Ideal) arg4.view (Rect.unit (s := S32768x2048) (k0_off3 k0_t1 k0_t2 k) S128x128.size (k0_off3_inb k0_t1 k0_t2 k)).toLoadRect (harg4.unread x4))
      (View.readAt (Elt Ideal) arg1.view (Rect.unit (s := S256x16) (k0_off4 k0_t1 k0_t2 k) S1x1.size (k0_off4_inb k0_t1 k0_t2 k)).toLoadRect (harg1.unread x1) (Shape.Idx.first (show 0 < S1x1.numel by rw [numel1_S1x1]; exact Nat.one_pos))) r = s := by
    funext c
    rw [scR_apply k0_t1 _ _ k _ _ k0_t1.val k.val hi (by omega) rfl rfl r c, ← hs c, scale_read]
    exact congrArg₂ (fun Q K => score Q K _ _ _ r c) (funext h7) (funext fun x => tile_read ..)
  refine ⟨?_, ?_, ?_⟩
  · refine (pay11_apply ..).trans ?_
    rw [hm]; exact congrArg _ hsc
  · refine (pay14_apply ..).trans ?_
    rw [hm, hl]; exact congrArg _ hsc
  · refine (pay6_step ..).trans ?_
    rw [hm, ha, hsc, scale_read]
    exact congrArg (fun V => accNew z.1 z.2.2 s V _) (funext fun c => tile_read ..)

/-- The carried value before trip `j`. -/
theorem st3_val (𝒱 : Variants) (c : Dev nD) (bd : Option 𝒱.V) (arg0 : Memref sig .tc .smem S256x64 .f32) (harg0 : arg0.IsWhole) (arg1 : Memref sig .tc .smem S256x16 .f32) (harg1 : arg1.IsWhole) (arg2 : Memref sig .tc .smem S256x16 .f32) (harg2 : arg2.IsWhole) (arg3 : Memref sig .tc .vmem S32768x8192 .fp8e4m3) (harg3 : arg3.IsWhole) (arg4 : Memref sig .tc .vmem S32768x2048 .fp8e4m3) (harg4 : arg4.IsWhole) (arg5 : Memref sig .tc .vmem S32768x2048 .fp8e4m3) (harg5 : arg5.IsWhole) (arg6 : Memref sig .tc .vmem S32768x8192 .bf16) (harg6 : arg6.IsWhole) (k0_t1 : Fin k0_t1_loop.trips) (k0_t2 : Fin k0_t2_loop.trips) (v2 : BitVec 32) (v7 : Vec Ideal S128x128 .fp8e4m3) (v15 : Elt Ideal .f32) (x1 x2 : Vec Ideal S256x16 .f32) (x4 x5 : Vec Ideal S32768x2048 .fp8e4m3) (r d : Fin 128) (s : ℕ → Fin 128 → EReal)
    (hs : ∀ j c, score (fun x => v7 (ix2 r x)) (fun x => x4 (ix2 (Fin.ofNat 32768 (128 * j + c.val)) (Fin.ofNat 2048 (128 * (k0_t2.val / 4) + x.val))))
      (v15 * x1 (ix2 (Fin.ofNat 256 j) (Fin.ofNat 16 (k0_t2.val / 4)))) k0_t1.val j r c = s j c) (j : ℕ) (hj : j ≤ (k0_t3_loop k0_t1).trips) :
    let z := attn s (fun j c => x5 (ix2 (Fin.ofNat 32768 (128 * j + c.val)) (Fin.ofNat 2048 (128 * (k0_t2.val / 4) + d.val))))
          (fun j => x2 (ix2 (Fin.ofNat 256 j) (Fin.ofNat 16 (k0_t2.val / 4)))) j
    let a := st_k0_t3 (F := Ideal) 𝒱 c bd arg0 harg0 arg1 harg1 arg2 harg2 arg3 harg3 arg4 harg4 arg5 harg5 arg6 harg6 k0_t1 k0_t2 v2 v7 v15 (harg1.unread x1) (harg2.unread x2) (harg4.unread x4) (harg5.unread x5) (k0_pay3, k0_pay4, k0_pay5) j
    a.1 (ix2 r 0) = z.1 ∧ a.2.1 (ix2 r 0) = z.2.1 ∧ a.2.2 (ix2 r d) = z.2.2 := by
  induction j with
  | zero =>
    dsimp only [attn, st_k0_t3]
    refine ⟨?_, ?_, ?_⟩
    · pointwise [k0_pay3]; exact ofBits_negInf
    · pointwise [k0_pay4]
    · pointwise [k0_pay5]
  | succ j ih =>
    obtain ⟨hm, hl, ha⟩ := ih (by omega)
    have e := st_k0_t3_succ (F := Ideal) 𝒱 c bd arg0 harg0 arg1 harg1 arg2 harg2 arg3 harg3 arg4 harg4 arg5 harg5 arg6 harg6 k0_t1 k0_t2 v2 v7 v15 (harg1.unread x1) (harg2.unread x2) (harg4.unread x4) (harg5.unread x5) (k0_pay3, k0_pay4, k0_pay5) ⟨j, hj⟩
    dsimp only at e ⊢
    rw [e]
    exact trip3_val 𝒱 c bd arg0 harg0 arg1 harg1 arg2 harg2 arg3 harg3 arg4 harg4 arg5 harg5 arg6 harg6 k0_t1 k0_t2 v2 v7 v15 x1 x2 x4 x5 ⟨j, hj⟩ _ r d _ hm hl ha (s j) (hs j)

/-! ## The result -/

theorem q_read {m : Memref sig .tc .vmem S32768x8192 .fp8e4m3} (h : m.IsWhole) (x : Vec Ideal S32768x8192 .fp8e4m3)
    (i : Fin k0_t1_loop.trips) (n : Fin k0_t2_loop.trips) (a b : Fin 128) (ha : 128 * i.val + a.val < 32768) (hb : 128 * n.val + b.val < 8192) :
    View.readAt (Elt Ideal) m.view (Rect.unit (s := S32768x8192) (k0_off1 i n) S128x128.size (k0_off1_inb i n)).toLoadRect (h.unread x) (ix2 a b)
      = x (ix2 ⟨128 * i.val + a.val, ha⟩ ⟨128 * n.val + b.val, hb⟩) := by
  rw [h.readAt_unread]
  refine congrArg x ?_
  funext z; fin_cases z
  · apply Fin.ext
    show (k0_off1 i n) 0 + 1 * a.val = 128 * i.val + a.val
    rw [off1_val]
    show 128 * i.val + 1 * a.val = _
    omega
  · apply Fin.ext
    show (k0_off1 i n) 1 + 1 * b.val = 128 * n.val + b.val
    rw [off1_val]
    show 128 * n.val + 1 * b.val = _
    omega

theorem qs_read {m : Memref sig .tc .smem S256x64 .f32} (h : m.IsWhole) (x : Vec Ideal S256x64 .f32)
    (i : Fin k0_t1_loop.trips) (n : Fin k0_t2_loop.trips) :
    trip2.sl.r (F := Ideal) m i (h.unread x) n = x (ix2 ⟨i.val, lt256 i⟩ ⟨n.val, lt64 n⟩) := by
  unfold trip2.sl.r
  rw [h.readAt_unread]
  refine congrArg x ?_
  funext z; fin_cases z
  · apply Fin.ext
    show (k0_off2 i n) 0 + 1 * 0 = i.val
    rw [off2_val]
    show i.val + 1 * 0 = _
    omega
  · apply Fin.ext
    show (k0_off2 i n) 1 + 1 * 0 = n.val
    rw [off2_val]
    show n.val + 1 * 0 = _
    omega

/-- The result at an entry of tile `(i, n)`, of the operands. -/
theorem outR_val (c : Dev nD) (arg0 : Memref sig .tc .smem S256x64 .f32) (harg0 : arg0.IsWhole) (arg1 : Memref sig .tc .smem S256x16 .f32) (harg1 : arg1.IsWhole) (arg2 : Memref sig .tc .smem S256x16 .f32) (harg2 : arg2.IsWhole) (arg3 : Memref sig .tc .vmem S32768x8192 .fp8e4m3) (harg3 : arg3.IsWhole) (arg4 : Memref sig .tc .vmem S32768x2048 .fp8e4m3) (harg4 : arg4.IsWhole) (arg5 : Memref sig .tc .vmem S32768x2048 .fp8e4m3) (harg5 : arg5.IsWhole) (arg6 : Memref sig .tc .vmem S32768x8192 .bf16) (harg6 : arg6.IsWhole) (x0 : Vec Ideal S256x64 .f32) (x1 x2 : Vec Ideal S256x16 .f32) (x3 : Vec Ideal S32768x8192 .fp8e4m3) (x4 x5 : Vec Ideal S32768x2048 .fp8e4m3) (i : Fin k0_t1_loop.trips) (n : Fin k0_t2_loop.trips) (r d : Fin 128) (y : S32768x8192.Idx)
    (h0 : (y 0).val = 128 * i.val + r.val) (h1 : (y 1).val = 128 * n.val + d.val)
    (q : Fin 32768 → Fin 64 → Fin 128 → EReal) (qs : Fin 256 → Fin 64 → EReal) (k : Fin 32768 → Fin 16 → Fin 128 → EReal)
    (ks : Fin 256 → Fin 16 → EReal) (v : Fin 32768 → Fin 16 → Fin 128 → EReal) (vs : Fin 256 → Fin 16 → EReal)
    (e0 : ∀ b n, x0 (ix2 b n) = qs b n) (e1 : ∀ b n, x1 (ix2 b n) = ks b n) (e2 : ∀ b n, x2 (ix2 b n) = vs b n)
    (e3 : ∀ s (n : Fin 64) (d : Fin 128) h, x3 (ix2 s ⟨128 * n.val + d.val, h⟩) = q s n d)
    (e4 : ∀ s (n : Fin 16) (d : Fin 128), x4 (ix2 s (Fin.ofNat 2048 (128 * n.val + d.val))) = k s n d)
    (e5 : ∀ s (n : Fin 16) (d : Fin 128), x5 (ix2 s (Fin.ofNat 2048 (128 * n.val + d.val))) = v s n d) :
    outR (F := Ideal) c arg0 harg0 arg1 harg1 arg2 harg2 arg3 harg3 arg4 harg4 arg5 harg5 arg6 harg6 x0 x1 x2 x3 x4 x5 y = attnOut q qs k ks v vs ⟨i.val, lt256 i⟩ ⟨n.val, lt64 n⟩ r d := by
  have hi := lt256 i
  have hn := lt64 n
  rw [outR_apply c arg0 harg0 arg1 harg1 arg2 harg2 arg3 harg3 arg4 harg4 arg5 harg5 arg6 harg6 x0 x1 x2 x3 x4 x5 i n (ix2 r d) y h0 h1]
  have hg : Fin.ofNat 16 (n.val / 4) = (⟨n.val / 4, by omega⟩ : Fin 16) := Fin.ext (Nat.mod_eq_of_lt (by omega))
  obtain ⟨-, hl, ha⟩ := st3_val Variants.none c none arg0 harg0 arg1 harg1 arg2 harg2 arg3 harg3 arg4 harg4 arg5 harg5 arg6 harg6 i n (trip2.sl.v2 n)
    (View.readAt (Elt Ideal) arg3.view (Rect.unit (s := S32768x8192) (k0_off1 i n) S128x128.size (k0_off1_inb i n)).toLoadRect (harg3.unread x3))
    (trip2.sl.r arg0 i (harg0.unread x0) n) x1 x2 x4 x5 r d
    (fun j c => score (q ⟨128 * i.val + r.val, by omega⟩ ⟨n.val, hn⟩) (k (Fin.ofNat 32768 (128 * j + c.val)) ⟨n.val / 4, by omega⟩)
      (qs ⟨i.val, hi⟩ ⟨n.val, hn⟩ * ks (Fin.ofNat 256 j) ⟨n.val / 4, by omega⟩) i.val j r c)
    (fun j c => by
      rw [qs_read, e0, hg, e1]
      refine congrArg₂ (fun Q K => score Q K _ _ _ r c) (funext fun x => ?_) (funext fun x => ?_)
      · rw [q_read harg3 x3 i n r x (by omega) (by omega)]
        exact e3 _ ⟨n.val, hn⟩ x _
      · exact e4 _ ⟨n.val / 4, by omega⟩ x)
    (k0_t3_loop i).trips le_rfl
  pointwise [k0_pay8]
  unfold accR
  rw [hl, ha, trips3 i]
  unfold attnOut
  dsimp only
  have h5 : ∀ s, x5 (ix2 s (Fin.ofNat 2048 (128 * (n.val / 4) + d.val))) = v s ⟨n.val / 4, by omega⟩ d := fun s => e5 s ⟨n.val / 4, by omega⟩ d
  simp only [hg, e2, h5]
  rfl

variable (m : (ℓ : Loc nD τ sig) → Buf (Elt Ideal) ℓ) (ρ : Dev nD → PrngReg)

theorem V0_val (c : Dev nD) (a : Fin 256) (b : Fin 64) : V m c main_v0 (ix2 a b) = m ((c : Thread nD τ).loc main_arg1) (ix3 0 a b) := by
  entry_read
  pointwise
theorem V1_val (c : Dev nD) (a : Fin 256) (b : Fin 16) : V m c main_v1 (ix2 a b) = m ((c : Thread nD τ).loc main_arg3) (ix3 0 a b) := by
  entry_read
  pointwise
theorem V2_val (c : Dev nD) (a : Fin 256) (b : Fin 16) : V m c main_v2 (ix2 a b) = m ((c : Thread nD τ).loc main_arg5) (ix3 0 a b) := by
  entry_read
  pointwise
theorem V3_val (c : Dev nD) (a : Fin 32768) (n : Fin 64) (b : Fin 128) (h) :
    V m c main_v3 (ix2 a ⟨128 * n.val + b.val, h⟩) = m ((c : Thread nD τ).loc main_arg0) (ix4 0 a n b) := by
  entry_read
  pointwise
theorem V4_val (c : Dev nD) (a : Fin 32768) (n : Fin 16) (b : Fin 128) :
    V m c main_v4 (ix2 a (Fin.ofNat 2048 (128 * n.val + b.val))) = m ((c : Thread nD τ).loc main_arg2) (ix4 0 a n b) := by
  rw [show Fin.ofNat 2048 (128 * n.val + b.val) = ⟨128 * n.val + b.val, by omega⟩ from Fin.ext (Nat.mod_eq_of_lt (by omega))]
  entry_read
  pointwise
theorem V5_val (c : Dev nD) (a : Fin 32768) (n : Fin 16) (b : Fin 128) :
    V m c main_v5 (ix2 a (Fin.ofNat 2048 (128 * n.val + b.val))) = m ((c : Thread nD τ).loc main_arg4) (ix4 0 a n b) := by
  rw [show Fin.ofNat 2048 (128 * n.val + b.val) = ⟨128 * n.val + b.val, by omega⟩ from Fin.ext (Nat.mod_eq_of_lt (by omega))]
  entry_read
  pointwise

theorem blk0 (c : Dev nD) (t : Fin cfg0.N) (a : Fin 256) (b : Fin 64) : iblk m c 0 t (ix2 a b) = V m c main_v0 (ix2 a b) := by
  have e : win0_0.index t0_0 = ![0, 0] := by decide +kernel
  rw [fin_N0 t]
  blk_ext [iblk, e]
theorem blk1 (c : Dev nD) (t : Fin cfg0.N) (a : Fin 256) (b : Fin 16) : iblk m c 1 t (ix2 a b) = V m c main_v1 (ix2 a b) := by
  have e : win0_1.index t0_0 = ![0, 0] := by decide +kernel
  rw [fin_N0 t]
  blk_ext [iblk, e]
theorem blk2 (c : Dev nD) (t : Fin cfg0.N) (a : Fin 256) (b : Fin 16) : iblk m c 2 t (ix2 a b) = V m c main_v2 (ix2 a b) := by
  have e : win0_2.index t0_0 = ![0, 0] := by decide +kernel
  rw [fin_N0 t]
  blk_ext [iblk, e]
theorem blk3 (c : Dev nD) (t : Fin cfg0.N) (a : Fin 32768) (b : Fin 8192) : iblk m c 3 t (ix2 a b) = V m c main_v3 (ix2 a b) := by
  have e : win0_3.index t0_0 = ![0, 0] := by decide +kernel
  rw [fin_N0 t]
  blk_ext [iblk, e]
theorem blk4 (c : Dev nD) (t : Fin cfg0.N) (a : Fin 32768) (b : Fin 2048) : iblk m c 4 t (ix2 a b) = V m c main_v4 (ix2 a b) := by
  have e : win0_4.index t0_0 = ![0, 0] := by decide +kernel
  rw [fin_N0 t]
  blk_ext [iblk, e]
theorem blk5 (c : Dev nD) (t : Fin cfg0.N) (a : Fin 32768) (b : Fin 2048) : iblk m c 5 t (ix2 a b) = V m c main_v5 (ix2 a b) := by
  have e : win0_5.index t0_0 = ![0, 0] := by decide +kernel
  rw [fin_N0 t]
  blk_ext [iblk, e]

/-- The attention of the arguments. -/
def G (c : Dev nD) : Vec Ideal S32768x8192 .bf16 :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem outsAtR_val (c : Dev nD) (t : Fin cfg0.N) (y : S32768x8192.Idx) : outsAtR (F := Ideal) m c t y = G m c y := by
  have h0 : (y 0).val < 32768 := (y 0).isLt
  have h1 : (y 1).val < 8192 := (y 1).isLt
  unfold outsAtR G result
  exact outR_val c _ _ _ _ _ _ _ _ _ _ _ _ _ _ _ _ _ _ _ _
    ⟨(y 0).val / 128, by rw [trips1]; omega⟩ ⟨(y 1).val / 128, by rw [trips2]; omega⟩ ⟨(y 0).val % 128, by omega⟩ ⟨(y 1).val % 128, by omega⟩ y
    (Nat.div_add_mod _ _).symm (Nat.div_add_mod _ _).symm _ _ _ _ _ _
    (fun b n => (blk0 m c t b n).trans (V0_val m c b n)) (fun b n => (blk1 m c t b n).trans (V1_val m c b n)) (fun b n => (blk2 m c t b n).trans (V2_val m c b n))
    (fun s n d h => (blk3 m c t s _).trans (V3_val m c s n d h)) (fun s n d => (blk4 m c t s _).trans (V4_val m c s n d)) (fun s n d => (blk5 m c t s _).trans (V5_val m c s n d))

theorem final6 (c : Dev nD) : (dats m 0 c).arrAt 6 cfg0.N = G m c := by
  refine (dats m 0 c).arrAt_eq_of_after_last 6 t0_0 (by decide +kernel) _ fun j => ?_
  have : ((cfg0.win 6).arr.view.emb j) = j := rfl
  rw [this, after0_6]
  exact outsAtR_val m c t0_0 j

/-- The run: the result array holds the attention of the arguments, and the arguments are as launched. -/
theorem runValue : θ_run defs (onTc (τ := τ) (main (F := Ideal))) ⟨m, fun _ => 0, ρ⟩ fun r => ∀ c : Dev nD,
      r.2.mem ((c : Thread nD τ).loc main_v6) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨((h.1 c).1 6).trans (final6 m c), h.2.1 c⟩) (θ_run_and (run_main m ρ) (frame m ρ))

end Cert.ReferenceIdeal.Hand
-- ==== Proof.KernelScale.lean ====
/-
  The power-of-two scale of the kernel's codes: its exponent is found by counting the powers of two that are at most the
  largest weight over 448, and the scale and its inverse are made of their bit patterns.
-/
module

public import proofs.«01_k».proof.Proof.Spec

@[expose] public section

set_option maxRecDepth 16384

noncomputable section

namespace Cert.Attn

open Idealize.ShloMosaic

/-- One where the power of two of exponent field `x` is at most `y`. -/
def cw (y : EReal) (x : Fin 256) : BitVec 32 :=
  BitVec.setWidth 32 (IntOp.andi (BitVec.ofBool (decide (Ideal.ofBits .f32 (IntOp.shli ArithUnit.vector (BitVec.ofNat 32 x.val) 23#32) ≤ y)))
    (IntOp.cmpi CmpIPredicate.sgt (BitVec.ofNat 32 x.val) 0#32))

/-- How many they are. -/
def cnt (y : EReal) : BitVec 32 := Finset.fold IntOp.addi (0#32) (cw y) Finset.univ

/-- The exponent. -/
def eWord (N : BitVec 32) : BitVec 32 :=
  Scalar.select (IntOp.cmpi CmpIPredicate.eq N 0#32) (0#32) (IntOp.subi N 126#32)

/-- The inverse of the scale. -/
def kInv (e : BitVec 32) : EReal :=
  Ideal.ofBits .f32 (IntOp.shli ArithUnit.vector (IntOp.addi (IntOp.subi (0#32) e) 127#32) 23#32)

/-- The scale. -/
def kScale (e : BitVec 32) : EReal := Ideal.ofBits .f32 (IntOp.shli ArithUnit.vector (IntOp.addi e 127#32) 23#32)

/-- The code of a weight. -/
def kCode (x : EReal) (e : BitVec 32) : EReal :=
  min (Ideal.ofBits .f32 1138753536#32) (max (Ideal.ofBits .f32 3286237184#32) (x * kInv e))

/-- The exponent of a tile of weights. -/
def eTile (p : Fin 128 → Fin 128 → EReal) : BitVec 32 := eWord (cnt (tmax p * Ideal.ofBits .f32 991054117#32))

theorem shl_word : ∀ x : Fin 256, IntOp.shli ArithUnit.vector (BitVec.ofNat 32 x.val) 23#32 = BitVec.ofNat 32 x.val <<< 23 := by decide +kernel

theorem sgt_word : ∀ x : Fin 256, IntOp.cmpi CmpIPredicate.sgt (BitVec.ofNat 32 x.val) 0#32 = BitVec.ofBool (decide (0 < x.val)) := by decide +kernel

theorem scale_word : ∀ N : Fin 127, 0 < N.val →
    IntOp.shli ArithUnit.vector (IntOp.addi (eWord (BitVec.ofNat 32 N.val)) 127#32) 23#32 = BitVec.ofNat 32 (N.val + 1) <<< 23
    ∧ IntOp.shli ArithUnit.vector (IntOp.addi (IntOp.subi (0#32) (eWord (BitVec.ofNat 32 N.val))) 127#32) 23#32 = BitVec.ofNat 32 (253 - N.val) <<< 23 := by
  decide +kernel

theorem scale_word_zero :
    IntOp.shli ArithUnit.vector (IntOp.addi (eWord 0#32) 127#32) 23#32 = BitVec.ofNat 32 127 <<< 23
    ∧ IntOp.shli ArithUnit.vector (IntOp.addi (IntOp.subi (0#32) (eWord 0#32)) 127#32) 23#32 = BitVec.ofNat 32 127 <<< 23 := by
  decide +kernel

/-- The scale is a positive real number, its inverse the factor on the weights, and large enough that no code is clipped. -/
theorem eTile_scale (p : Fin 128 → Fin 128 → EReal) (h0 : ∀ r c, 0 ≤ p r c) (h1 : ∀ r c, p r c ≤ 1) :
    ∃ x : ℝ, 0 < x ∧ (∀ r c, p r c ≤ ((448 * x : ℝ) : EReal)) ∧ kScale (eTile p) = (x : EReal) ∧ kInv (eTile p) = ((x⁻¹ : ℝ) : EReal) := by
  have hA1 : tmax p ≤ 1 := tmax_le p 1 h1
  have hA0 : 0 ≤ tmax p := (h0 0 0).trans (le_tmax p 0 0)
  have hle := le_tmax p
  unfold eTile
  rw [show Ideal.ofBits .f32 991054117#32 = (c448 : EReal) from ofBits_c448]
  generalize tmax p = A at *
  lift A to ℝ using ⟨ne_top_of_le_ne_top (EReal.coe_ne_top 1) hA1, by rintro rfl; simp at hA0⟩
  have hA1' : A ≤ 1 := by exact_mod_cast hA1
  have hA0' : 0 ≤ A := by exact_mod_cast hA0
  have hy : A * c448 < (2 : ℝ) ^ (((127 : ℕ) : ℤ) - 127) := by norm_num [c448]; linarith
  have hP : ∀ j : Fin 256, (IntOp.andi (BitVec.ofBool (decide (Ideal.ofBits .f32 (IntOp.shli ArithUnit.vector (BitVec.ofNat 32 j.val) 23#32) ≤ (A : EReal) * (c448 : EReal))))
      (IntOp.cmpi CmpIPredicate.sgt (BitVec.ofNat 32 j.val) 0#32) = 1#1) ↔ 1 ≤ j.val ∧ (2 : ℝ) ^ ((j.val : ℤ) - 127) ≤ A * c448 := by
    intro j
    rw [sgt_word, WordArith.andi_ofBool, WordArith.ofBool_eq_one_iff, Bool.and_eq_true, decide_eq_true_iff, decide_eq_true_iff, shl_word, and_comm]
    refine and_congr_right fun hj => ?_
    by_cases ht : j.val = 255
    · rw [ht, ofBits_pow2_top, ← EReal.coe_mul]
      refine iff_of_false (fun h => EReal.coe_ne_top _ (top_le_iff.mp h)) (fun h => ?_)
      have : (2 : ℝ) ^ (((127 : ℕ) : ℤ) - 127) ≤ (2 : ℝ) ^ (((255 : ℕ) : ℤ) - 127) := by norm_num
      linarith
    · rw [ofBits_pow2 ⟨j.val, by omega⟩ hj, ← EReal.coe_mul, EReal.coe_le_coe_iff]
  obtain ⟨hN, hb⟩ := count_bound 256 1 127 (A * c448) _ hP 127 (by omega) (by omega) hy
  have hc : cnt ((A : EReal) * (c448 : EReal)) = BitVec.ofNat 32 (Finset.univ.filter fun j : Fin 256 => IntOp.andi (BitVec.ofBool (decide (Ideal.ofBits .f32 (IntOp.shli ArithUnit.vector (BitVec.ofNat 32 j.val) 23#32) ≤ (A : EReal) * (c448 : EReal))))
      (IntOp.cmpi CmpIPredicate.sgt (BitVec.ofNat 32 j.val) 0#32) = 1#1).card := by
    unfold cnt cw
    rw [IndicatorCount.fold_addi_setWidth_eq_card]
  rw [hc]
  generalize (Finset.univ.filter fun j : Fin 256 => IntOp.andi (BitVec.ofBool (decide (Ideal.ofBits .f32 (IntOp.shli ArithUnit.vector (BitVec.ofNat 32 j.val) 23#32) ≤ (A : EReal) * (c448 : EReal))))
      (IntOp.cmpi CmpIPredicate.sgt (BitVec.ofNat 32 j.val) 0#32) = 1#1).card = N at hN hb
  unfold kScale kInv
  rcases Nat.eq_zero_or_pos N with rfl | hpos
  · refine ⟨1, one_pos, fun r c => (hle r c).trans (by exact_mod_cast (by linarith : A ≤ 448 * 1)), ?_, ?_⟩
    · rw [scale_word_zero.1, ofBits_pow2 ⟨127, by omega⟩ (by norm_num)]; norm_num
    · rw [scale_word_zero.2, ofBits_pow2 ⟨127, by omega⟩ (by norm_num)]; norm_num
  · refine ⟨(2 : ℝ) ^ ((N : ℤ) - 126), by positivity, fun r c => (hle r c).trans ?_, ?_, ?_⟩
    · have h2 : A ≤ 448 * (A * c448) := by norm_num [c448]; linarith
      have h3 : ((1 + N : ℕ) : ℤ) - 127 = (N : ℤ) - 126 := by push_cast; ring
      rw [h3] at hb
      exact_mod_cast (by linarith : A ≤ 448 * (2 : ℝ) ^ ((N : ℤ) - 126))
    · rw [(scale_word ⟨N, by omega⟩ hpos).1]
      refine (ofBits_pow2 ⟨N + 1, by omega⟩ (Nat.succ_pos N)).trans (congrArg _ (congrArg _ ?_))
      push_cast; ring
    · rw [(scale_word ⟨N, by omega⟩ hpos).2]
      refine (ofBits_pow2 ⟨253 - N, by omega⟩ (show 0 < 253 - N by omega)).trans (congrArg _ ?_)
      rw [← zpow_neg]
      refine congrArg _ ?_
      push_cast [Nat.cast_sub (show N ≤ 253 by omega)]
      omega

/-- The codes and their scale do not show in the product with the values. -/
theorem kRequant (p : Fin 128 → Fin 128 → EReal) (h0 : ∀ r c, 0 ≤ p r c) (h1 : ∀ r c, p r c ≤ 1) (r : Fin 128) (V : Fin 128 → EReal) (vs : EReal) :
    (∑ c, V c * kCode (p r c) (eTile p)) * (kScale (eTile p) * vs) = (∑ c, p r c * V c) * vs := by
  obtain ⟨x, hx, hb, e1, e2⟩ := eTile_scale p h0 h1
  unfold kCode
  rw [e1, e2, show Ideal.ofBits .f32 1138753536#32 = ((448 : ℝ) : EReal) from ofBits_448,
    show Ideal.ofBits .f32 3286237184#32 = ((-448 : ℝ) : EReal) from ofBits_neg448,
    ← requant (p r) V vs x hx (h0 r) (hb r)]
  simp only [mul_comm (V _)]

end Cert.Attn
-- ==== Proof.KernelStep.lean ====
/-
  One step of the kernel's loop over the key blocks, read at an index on the extended reals: the step of `Spec.lean` in
  each of its 512 columns. Column `128*g + r` is row `r` of query head `g` of the group.
-/
module

public import proofs.«01_k».proof.Proof.KernelScale
public import proofs.«01_k».proof.Proof.Gen.KernelIdeal.Loops
public import Idealize.ShloMosaic.Lib.Pointwise

@[expose] public section

set_option maxRecDepth 16384
set_option maxHeartbeats 1000000

noncomputable section

namespace Cert.KernelIdeal.Hand

open Cert.KernelIdeal Cert.KernelIdeal.Gen Cert.Attn
open Idealize.ShloMosaic

/-- The column of row `r` of query head `g`. -/
def col (g : Fin 4) (r : Fin 128) : Fin 512 := ⟨128 * g.val + r.val, by omega⟩

theorem col_zero (r : Fin 128) (h : r.val < 512) : (⟨r.val, h⟩ : Fin 512) = col 0 r := Fin.ext (by simp [col])

/-- The tile of query head `g` of a matrix of 512 columns. -/
def tl (p : FVec Ideal S128x512 .f32) (g : Fin 4) (r c : Fin 128) : EReal := p (ix2 c (col g r))

section Step

variable (v2 : FVec Ideal S512x128 .fp8e4m3) (v4 : FVec Ideal S1x512 .f32) (m l : FVec Ideal S1x512 .f32)
  (v266 : Vec Ideal S1x1x128x128 .fp8e4m3) (v270 : Elt Ideal .f32)

/-- The scores of column `q`. -/
def sK (q : Fin 512) (c : Fin 128) : EReal := k0_pay2 (F := Ideal) v2 v4 v266 v270 (ix2 c q)

theorem pay3_apply (q : Fin 512) : k0_pay3 (F := Ideal) v2 v4 m v266 v270 (ix2 0 q) = mNew (m (ix2 0 q)) (sK v2 v4 v266 v270 q) := by
  pointwise [k0_pay3]
  rw [ofBits_negInf]
  rfl

theorem pay4_apply (q : Fin 512) : k0_pay4 (F := Ideal) v2 v4 m v266 v270 (ix2 0 q) = aRow (m (ix2 0 q)) (sK v2 v4 v266 v270 q) := by
  pointwise [k0_pay4]
  rw [pay3_apply]
  rfl

theorem pay5_apply (q : Fin 512) (c : Fin 128) :
    k0_pay5 (F := Ideal) v2 v4 m v266 v270 (ix2 c q) = pRow (m (ix2 0 q)) (sK v2 v4 v266 v270 q) c := by
  pointwise [k0_pay5]
  rw [pay3_apply]
  rfl

theorem pay6_apply (q : Fin 512) :
    k0_pay6 (F := Ideal) v2 v4 m l v266 v270 (ix2 0 q) = lNew (m (ix2 0 q)) (l (ix2 0 q)) (sK v2 v4 v266 v270 q) := by
  pointwise [k0_pay6]
  simp only [pay4_apply, pay5_apply]
  rfl

theorem pay7_apply (q : Fin 512) :
    k0_pay7 (F := Ideal) v2 v4 m v266 v270 (ix2 0 q) = Finset.univ.fold max ⊥ (fun c => k0_pay5 (F := Ideal) v2 v4 m v266 v270 (ix2 c q)) := by
  pointwise [k0_pay7]
  rw [ofBits_negInf]

end Step

end Cert.KernelIdeal.Hand
-- ==== Proof.KernelScore.lean ====
/-
  The scores of the kernel, read at an index: in the loop, and in the last step, where the later positions are masked.
-/
module

public import proofs.«01_k».proof.Proof.KernelStep
public import Idealize.ShloMosaic.Lib.Pointwise

@[expose] public section

set_option maxRecDepth 16384
set_option maxHeartbeats 1000000

noncomputable section

namespace Cert.KernelIdeal.Hand

open Cert.KernelIdeal Cert.KernelIdeal.Gen Cert.Attn
open Idealize.ShloMosaic

theorem pay48_apply (v0 : Vec Ideal S4x1x128x128 .fp8e4m3) (g : Fin 4) (r x : Fin 128) :
    k0_pay48 (F := Ideal) v0 (ix2 (col g r) x) = v0 (ix4 g 0 r x) := by
  unfold col
  pointwise [k0_pay48]

theorem pay49_apply (v3 : Vec Ideal S1x1x512 .f32) (q : Fin 512) : k0_pay49 (F := Ideal) v3 (ix2 0 q) = v3 (ix3 0 0 q) := by
  pointwise [k0_pay49]

theorem pay2_apply (v2 : FVec Ideal S512x128 .fp8e4m3) (v4 : FVec Ideal S1x512 .f32) (v266 : Vec Ideal S1x1x128x128 .fp8e4m3)
    (v270 : Elt Ideal .f32) (q : Fin 512) (c : Fin 128) :
    k0_pay2 (F := Ideal) v2 v4 v266 v270 (ix2 c q)
      = (∑ x, v266 (ix4 0 0 c x) * v2 (ix2 q x)) * (v4 (ix2 0 q) * v270 * Ideal.ofBits .f32 1035273459#32) := by
  pointwise [k0_pay2]

variable (v0 : Vec Ideal S4x1x128x128 .fp8e4m3) (v3 : Vec Ideal S1x1x512 .f32) (v266 : Vec Ideal S1x1x128x128 .fp8e4m3) (v270 : Elt Ideal .f32)

/-- A score of the loop: an earlier key block has no later position. -/
theorem sK_score (i j : ℕ) (hj : j < i) (g : Fin 4) (r : Fin 128) :
    sK (k0_pay48 v0) (k0_pay49 v3) v266 v270 (col g r)
      = fun c => score (fun x => v0 (ix4 g 0 r x)) (fun x => v266 (ix4 0 0 c x)) (v3 (ix3 0 0 (col g r)) * v270) i j r c := by
  funext c
  rw [sK, pay2_apply, pay49_apply, score, if_pos (by omega)]
  simp only [pay48_apply, mul_comm (v266 _)]

/-- The mask of the last step. -/
theorem mask_last : ∀ g : Fin 4, ∀ r : Fin 128, IntOp.andi (BitVec.ofNat 32 (col g r).val) 127#32 = BitVec.ofNat 32 r.val := by
  decide +kernel

theorem pay55_apply (q : Fin 512) (c : Fin 128) :
    k0_pay55 (F := Ideal) v0 v3 v266 v270 (ix2 c q)
      = Scalar.select (IntOp.cmpi CmpIPredicate.sle (BitVec.ofNat 32 c.val) (IntOp.andi (BitVec.ofNat 32 q.val) 127#32))
          (k0_pay2 (F := Ideal) (k0_pay48 v0) (k0_pay49 v3) v266 v270 (ix2 c q)) (Ideal.ofBits .f32 4048155338#32) := by
  rw [pay2_apply]
  pointwise [k0_pay55]

/-- A score of the last step. -/
theorem pay55_score (i : ℕ) (g : Fin 4) (r : Fin 128) :
    (fun c => k0_pay55 (F := Ideal) v0 v3 v266 v270 (ix2 c (col g r)))
      = fun c => score (fun x => v0 (ix4 g 0 r x)) (fun x => v266 (ix4 0 0 c x)) (v3 (ix3 0 0 (col g r)) * v270) i i r c := by
  funext c
  rw [pay55_apply, mask_last, score]
  have hw : IntOp.cmpi CmpIPredicate.sle (BitVec.ofNat 32 c.val) (BitVec.ofNat 32 r.val) = 1#1 ↔ 128 * i + c.val ≤ 128 * i + r.val := by
    rw [IntOp.cmpi_sle, WordArith.toInt_ofNat_small _ (by omega), WordArith.toInt_ofNat_small _ (by omega)]
    omega
  by_cases h : 128 * i + c.val ≤ 128 * i + r.val
  · rw [if_pos h, pay2_apply, pay49_apply]
    simp only [pay48_apply, mul_comm (v266 _)]
    exact if_pos (hw.mpr h)
  · rw [if_neg h]
    exact if_neg (fun h' => h (hw.mp h'))

end Cert.KernelIdeal.Hand
-- ==== Proof.KernelCodes.lean ====
/-
  The exponent, the codes and the scale of each query head of the group in one step of the kernel.
-/
module

public import proofs.«01_k».proof.Proof.KernelStep
public import Idealize.ShloMosaic.Lib.Pointwise

@[expose] public section

set_option maxRecDepth 16384
set_option maxHeartbeats 1000000

noncomputable section

namespace Cert.KernelIdeal.Hand

open Cert.KernelIdeal Cert.KernelIdeal.Gen Cert.Attn
open Idealize.ShloMosaic

section Count

variable (p : FVec Ideal S128x512 .f32) (v290 : FVec Ideal S1x512 .f32)

theorem tmax_tl (h : ∀ q, v290 (ix2 0 q) = Finset.univ.fold max ⊥ (fun c => p (ix2 c q))) (g : Fin 4) :
    Finset.univ.fold max ⊥ (fun x => v290 (ix2 0 (col g x))) = tmax (tl p g) := by
  simp only [h]; rfl

theorem pay12_apply (h : ∀ q, v290 (ix2 0 q) = Finset.univ.fold max ⊥ (fun c => p (ix2 c q))) :
    eWord (k0_pay12 (F := Ideal) v290 (ix1 0)) = eTile (tl p 1) := by
  pointwise [k0_pay12]
  rw [ofBits_negInf]
  rw [eTile, ← tmax_tl p v290 h]
  rfl

theorem pay16_apply (h : ∀ q, v290 (ix2 0 q) = Finset.univ.fold max ⊥ (fun c => p (ix2 c q))) :
    eWord (Finset.univ.fold IntOp.addi 0#32 (fun x => k0_pay16 (F := Ideal) v290 (ix2 0 x))) = eTile (tl p 2) := by
  rw [eTile, ← tmax_tl p v290 h]
  refine congrArg (fun f => eWord (Finset.fold IntOp.addi 0#32 f Finset.univ)) (funext fun x => ?_)
  pointwise [k0_pay16]
  rw [ofBits_negInf]
  rfl

theorem pay20_apply (h : ∀ q, v290 (ix2 0 q) = Finset.univ.fold max ⊥ (fun c => p (ix2 c q))) :
    eWord (Finset.univ.fold IntOp.addi 0#32 (fun x => k0_pay20 (F := Ideal) v290 (ix2 0 x))) = eTile (tl p 3) := by
  rw [eTile, ← tmax_tl p v290 h]
  refine congrArg (fun f => eWord (Finset.fold IntOp.addi 0#32 f Finset.univ)) (funext fun x => ?_)
  pointwise [k0_pay20]
  rw [ofBits_negInf]
  rfl

variable (v2 : FVec Ideal S512x128 .fp8e4m3) (v4 : FVec Ideal S1x512 .f32) (m : FVec Ideal S1x512 .f32)
  (v266 : Vec Ideal S1x1x128x128 .fp8e4m3) (v270 : Elt Ideal .f32)

theorem pay8_apply : eWord (k0_pay8 (F := Ideal) v2 v4 m v266 v270 (ix2 0 0)) = eTile (tl (k0_pay5 (F := Ideal) v2 v4 m v266 v270) 0) := by
  pointwise [k0_pay8]
  rw [ofBits_negInf]
  simp only [col_zero]
  rw [eTile, ← tmax_tl _ _ (pay7_apply v2 v4 m v266 v270)]
  rfl

end Count

section Code

variable (p : FVec Ideal S128x512 .f32)

theorem pay9_apply (v : IVec S1x1 32) : k0_pay9 v (ix2 0 0) = (eWord (v (ix2 0 0))) := by
  pointwise [k0_pay9]
  simp only [eWord]

theorem pay10_apply (v : IVec S1x1 32) (r c : Fin 128) : k0_pay10 (F := Ideal) p v (ix2 c r) = kCode (tl p 0 r c) (eWord (v (ix2 0 0))) := by
  pointwise [k0_pay10]
  simp only [col_zero]
  rw [pay9_apply, kCode, kInv, tl]

theorem pay11_apply (v : IVec S1x1 32) (r : Fin 128) : k0_pay11 (F := Ideal) v (ix2 0 r) = kScale (eWord (v (ix2 0 0))) := by
  pointwise [k0_pay11]
  rw [pay9_apply, kScale]

theorem pay13_apply (v : IVec S1 32) : k0_pay13 v (ix2 0 0) = (eWord (v (ix1 0))) := by
  pointwise [k0_pay13]
  simp only [eWord]

theorem pay14_apply (v : IVec S1 32) (r c : Fin 128) : k0_pay14 (F := Ideal) p v (ix2 c r) = kCode (tl p 1 r c) (eWord (v (ix1 0))) := by
  pointwise [k0_pay14]
  rw [pay13_apply, kCode, kInv, tl]
  rfl

theorem pay15_apply (v : IVec S1 32) (r : Fin 128) : k0_pay15 (F := Ideal) v (ix2 0 r) = kScale (eWord (v (ix1 0))) := by
  pointwise [k0_pay15]
  rw [pay13_apply, kScale]

theorem pay17_apply (v : IVec S1x256 32) : k0_pay17 v (ix2 0 0) = (eWord (Finset.univ.fold IntOp.addi 0#32 (fun x => v (ix2 0 x)))) := by
  pointwise [k0_pay17]
  simp only [eWord]

theorem pay18_apply (v : IVec S1x256 32) (r c : Fin 128) : k0_pay18 (F := Ideal) p v (ix2 c r) = kCode (tl p 2 r c) (eWord (Finset.univ.fold IntOp.addi 0#32 (fun x => v (ix2 0 x)))) := by
  pointwise [k0_pay18]
  rw [pay17_apply, kCode, kInv, tl]
  rfl

theorem pay19_apply (v : IVec S1x256 32) (r : Fin 128) : k0_pay19 (F := Ideal) v (ix2 0 r) = kScale (eWord (Finset.univ.fold IntOp.addi 0#32 (fun x => v (ix2 0 x)))) := by
  pointwise [k0_pay19]
  rw [pay17_apply, kScale]

end Code

end Cert.KernelIdeal.Hand
-- ==== Proof.KernelConcat.lean ====
/-
  The codes of the four query heads side by side, and their scales side by side, read at a column.
-/
module

public import proofs.«01_k».proof.Proof.KernelStep
public import Idealize.ShloMosaic.Lib.Pointwise

@[expose] public section

set_option maxRecDepth 16384
set_option maxHeartbeats 1000000

noncomputable section

namespace Cert.KernelIdeal.Hand

open Cert.KernelIdeal Cert.KernelIdeal.Gen Cert.Attn
open Idealize.ShloMosaic

section Concat

variable (p : FVec Ideal S128x512 .f32)

/-- The exponent that the words `v` count. -/
abbrev eFold (v : IVec S1x256 32) : BitVec 32 := eWord (Finset.univ.fold IntOp.addi 0#32 (fun x => v (ix2 0 x)))

theorem pay21_apply (v : IVec S1x256 32) : k0_pay21 v (ix2 0 0) = eFold v := by
  pointwise [k0_pay21]
  simp only [eFold, eWord]

variable (a b c : FVec Ideal S128x128 .fp8e4m3) (v : IVec S1x256 32) (vt : Vec Ideal S1x1x128x128 .fp8e4m3) (r d : Fin 128)

theorem pay22_0 : k0_pay22 (F := Ideal) p a b c v vt (ix2 d ⟨r.val, by omega⟩) = ∑ x, vt (ix4 0 0 d x) * a (ix2 x r) := by
  pointwise [k0_pay22]

theorem pay22_1 : k0_pay22 (F := Ideal) p a b c v vt (ix2 d ⟨128 + r.val, by omega⟩) = ∑ x, vt (ix4 0 0 d x) * b (ix2 x r) := by
  pointwise [k0_pay22]

theorem pay22_2 : k0_pay22 (F := Ideal) p a b c v vt (ix2 d ⟨256 + r.val, by omega⟩) = ∑ x, vt (ix4 0 0 d x) * c (ix2 x r) := by
  pointwise [k0_pay22]
  refine Finset.sum_congr rfl fun x _ => congrArg (_ * ·) ?_
  rw [dif_neg (by omega), dif_neg (by omega), dif_pos (by omega)]
  exact congrArg (fun y => c (ix2 x y)) (Fin.ext (by dsimp only; omega))

theorem pay22_3 : k0_pay22 (F := Ideal) p a b c v vt (ix2 d ⟨384 + r.val, by omega⟩) = ∑ x, vt (ix4 0 0 d x) * kCode (tl p 3 r x) (eFold v) := by
  pointwise [k0_pay22]
  refine Finset.sum_congr rfl fun x _ => congrArg (_ * ·) ?_
  rw [dif_neg (by omega), dif_neg (by omega), dif_neg (by omega)]
  have hi : ∀ h, (⟨384 + (384 + r.val - 128 - 128 - 128), h⟩ : Fin 512) = col 3 r := fun h => Fin.ext (by simp only [col]; omega)
  simp only [hi, kCode, kInv, tl, pay21_apply]

end Concat

section Scales

variable (a b c : FVec Ideal S1x128 .f32) (v : IVec S1x256 32) (vs : Elt Ideal .f32) (r d : Fin 128)

theorem pay24_0 : k0_pay24 (F := Ideal) a b c v vs (ix2 d ⟨r.val, by omega⟩) = a (ix2 0 r) * vs := by
  pointwise [k0_pay24]

theorem pay24_1 : k0_pay24 (F := Ideal) a b c v vs (ix2 d ⟨128 + r.val, by omega⟩) = b (ix2 0 r) * vs := by
  pointwise [k0_pay24]

theorem pay24_2 : k0_pay24 (F := Ideal) a b c v vs (ix2 d ⟨256 + r.val, by omega⟩) = c (ix2 0 r) * vs := by
  pointwise [k0_pay24]
  refine congrArg (· * _) ?_
  rw [dif_neg (by omega), dif_neg (by omega), dif_pos (by omega)]
  exact congrArg (fun y => c (ix2 0 y)) (Fin.ext (by dsimp only; omega))

theorem pay24_3 : k0_pay24 (F := Ideal) a b c v vs (ix2 d ⟨384 + r.val, by omega⟩) = kScale (eFold v) * vs := by
  pointwise [k0_pay24]
  refine congrArg (· * _) ?_
  rw [dif_neg (by omega), dif_neg (by omega), dif_neg (by omega)]
  simp only [kScale, pay21_apply]

end Scales

end Cert.KernelIdeal.Hand
-- ==== Proof.FinalStep.lean ====
/-
  The last step of the kernel, on the diagonal block, read at an index: the weights and the exponents of their codes.
-/
module

public import proofs.«01_k».proof.Proof.KernelStep
public import Idealize.ShloMosaic.Lib.Pointwise

@[expose] public section

set_option maxRecDepth 16384
set_option maxHeartbeats 1000000

noncomputable section

namespace Cert.KernelIdeal.Hand

open Cert.KernelIdeal Cert.KernelIdeal.Gen Cert.Attn
open Idealize.ShloMosaic

variable (m l : FVec Ideal S1x512 .f32) (s : FVec Ideal S128x512 .f32)

theorem pay56_apply (q : Fin 512) : k0_pay56 (F := Ideal) m s (ix2 0 q) = mNew (m (ix2 0 q)) (fun c => s (ix2 c q)) := by
  pointwise [k0_pay56]
  rw [ofBits_negInf]
  rfl

theorem pay57_apply (q : Fin 512) : k0_pay57 (F := Ideal) m s (ix2 0 q) = aRow (m (ix2 0 q)) (fun c => s (ix2 c q)) := by
  pointwise [k0_pay57]
  rw [pay56_apply]
  rfl

theorem pay58_apply (q : Fin 512) (c : Fin 128) : k0_pay58 (F := Ideal) m s (ix2 c q) = pRow (m (ix2 0 q)) (fun c => s (ix2 c q)) c := by
  pointwise [k0_pay58]
  rw [pay56_apply]
  rfl

theorem pay59_apply (q : Fin 512) : k0_pay59 (F := Ideal) m l s (ix2 0 q) = lNew (m (ix2 0 q)) (l (ix2 0 q)) (fun c => s (ix2 c q)) := by
  pointwise [k0_pay59]
  simp only [pay57_apply, pay58_apply]
  rfl

theorem pay60_apply (q : Fin 512) :
    k0_pay60 (F := Ideal) m s (ix2 0 q) = Finset.univ.fold max ⊥ (fun c => k0_pay58 (F := Ideal) m s (ix2 c q)) := by
  pointwise [k0_pay60]
  rw [ofBits_negInf]

theorem pay62_apply (r c : Fin 128) : k0_pay62 (F := Ideal) m s (ix2 c r) = tl (k0_pay58 (F := Ideal) m s) 0 r c := by
  pointwise [k0_pay62]
  simp only [col_zero]
  rfl

theorem pay63_apply (r c : Fin 128) : k0_pay63 (F := Ideal) m s (ix2 c r) = kInv (k0_pay61 (F := Ideal) m s (ix2 0 0)) := by
  pointwise [k0_pay63]
  rfl

variable (p : FVec Ideal S128x512 .f32) (v47 : FVec Ideal S1x512 .f32)

theorem pay67_apply (r c : Fin 128) : k0_pay67 (F := Ideal) p (ix2 c r) = tl p 1 r c := by
  pointwise [k0_pay67]
  rfl

theorem pay72_apply (r c : Fin 128) : k0_pay72 (F := Ideal) p (ix2 c r) = tl p 2 r c := by
  pointwise [k0_pay72]
  rfl

theorem pay77_apply (r c : Fin 128) : k0_pay77 (F := Ideal) p (ix2 c r) = tl p 3 r c := by
  pointwise [k0_pay77]
  rfl

theorem pay68_apply : k0_pay68 (F := Ideal) v47 (ix2 0 0) = kInv (k0_pay66 (F := Ideal) v47 (ix2 0 0)) := by
  pointwise [k0_pay68]
  rfl

theorem pay73_apply : Ideal.ofBits .f32 (k0_pay73 (F := Ideal) v47 (ix2 0 0)) = kInv (k0_pay71 (F := Ideal) v47 (ix2 0 0)) := by
  pointwise [k0_pay73]
  rfl

theorem pay78_apply : Ideal.ofBits .f32 (IntOp.shli ArithUnit.vector (k0_pay78 (F := Ideal) v47 (ix2 0 0)) (k0_pay79 (ix2 0 0)))
    = kInv (k0_pay76 (F := Ideal) v47 (ix2 0 0)) := by
  pointwise [k0_pay78, k0_pay79]
  rfl

variable (r c : Fin 128)

theorem pay64_apply (x : EReal) (e : BitVec 32) (a b : FVec Ideal S128x128 .f32) (ha : a (ix2 c r) = x) (hb : b (ix2 c r) = kInv e) :
    k0_pay64 (F := Ideal) a b (ix2 c r) = kCode x e := by
  pointwise [k0_pay64]
  rw [ha, hb]
  rfl

theorem pay69_apply (x : EReal) (e : BitVec 32) (a : FVec Ideal S128x128 .f32) (b : FVec Ideal S1x1 .f32) (ha : a (ix2 c r) = x) (hb : b (ix2 0 0) = kInv e) :
    k0_pay69 (F := Ideal) a b (ix2 c r) = kCode x e := by
  pointwise [k0_pay69]
  rw [ha, hb]
  rfl

theorem pay74_apply (x : EReal) (e : BitVec 32) (a : FVec Ideal S128x128 .f32) (b : IVec S1x1 32) (ha : a (ix2 c r) = x)
    (hb : Ideal.ofBits .f32 (b (ix2 0 0)) = kInv e) : k0_pay74 (F := Ideal) a b (ix2 c r) = kCode x e := by
  pointwise [k0_pay74]
  rw [ha, hb]
  rfl

variable (e : IVec S1x1 32)

theorem pay65_apply : k0_pay65 (F := Ideal) e (ix2 0 r) = kScale (e (ix2 0 0)) := by
  pointwise [k0_pay65]
  rfl

theorem pay70_apply : k0_pay70 (F := Ideal) e (ix2 0 r) = kScale (e (ix2 0 0)) := by
  pointwise [k0_pay70]
  rfl

theorem pay75_apply : k0_pay75 (F := Ideal) e (ix2 0 r) = kScale (e (ix2 0 0)) := by
  pointwise [k0_pay75]
  rfl

end Cert.KernelIdeal.Hand
-- ==== Proof.FinalExp.lean ====
/-
  The exponents of the codes of the last step, one to each query head of the group.
-/
module

public import proofs.«01_k».proof.Proof.KernelStep
public import Idealize.ShloMosaic.Lib.Pointwise

@[expose] public section

set_option maxRecDepth 16384
set_option maxHeartbeats 1000000

noncomputable section

namespace Cert.KernelIdeal.Hand

open Cert.KernelIdeal Cert.KernelIdeal.Gen Cert.Attn
open Idealize.ShloMosaic

variable (m : FVec Ideal S1x512 .f32) (s p : FVec Ideal S128x512 .f32) (v290 : FVec Ideal S1x512 .f32)

theorem tmax_tl' (h : ∀ q, v290 (ix2 0 q) = Finset.univ.fold max ⊥ (fun c => p (ix2 c q))) (g : Fin 4) :
    Finset.univ.fold max ⊥ (fun x => v290 (ix2 0 (col g x))) = tmax (tl p g) := by
  simp only [h]; rfl

theorem pay66_apply (h : ∀ q, v290 (ix2 0 q) = Finset.univ.fold max ⊥ (fun c => p (ix2 c q))) :
    k0_pay66 (F := Ideal) v290 (ix2 0 0) = eTile (tl p 1) := by
  rw [eTile, ← tmax_tl' p v290 h, ← ofBits_negInf]
  pointwise [k0_pay66]
  rfl

theorem pay71_apply (h : ∀ q, v290 (ix2 0 q) = Finset.univ.fold max ⊥ (fun c => p (ix2 c q))) :
    k0_pay71 (F := Ideal) v290 (ix2 0 0) = eTile (tl p 2) := by
  rw [eTile, ← tmax_tl' p v290 h, ← ofBits_negInf]
  pointwise [k0_pay71]
  rfl

theorem pay76_apply (h : ∀ q, v290 (ix2 0 q) = Finset.univ.fold max ⊥ (fun c => p (ix2 c q))) :
    k0_pay76 (F := Ideal) v290 (ix2 0 0) = eTile (tl p 3) := by
  rw [eTile, ← tmax_tl' p v290 h, ← ofBits_negInf]
  pointwise [k0_pay76]
  rfl

theorem pay61_apply (h : ∀ q, k0_pay60 (F := Ideal) m s (ix2 0 q) = Finset.univ.fold max ⊥ (fun c => p (ix2 c q))) :
    k0_pay61 (F := Ideal) m s (ix2 0 0) = eTile (tl p 0) := by
  rw [eTile, ← tmax_tl' p _ h, ← ofBits_negInf]
  pointwise [k0_pay61]
  simp only [col_zero]
  rfl

end Cert.KernelIdeal.Hand
-- ==== Proof.FinalOut.lean ====
/-
  The tiles the kernel stores, read at an index.
-/
module

public import proofs.«01_k».proof.Proof.KernelStep
public import Idealize.ShloMosaic.Lib.Pointwise

@[expose] public section

set_option maxRecDepth 16384
set_option maxHeartbeats 1000000

noncomputable section

namespace Cert.KernelIdeal.Hand

open Cert.KernelIdeal Cert.KernelIdeal.Gen Cert.Attn
open Idealize.ShloMosaic

variable (v14_2 : FVec Ideal S128x512 .f32) (v38 v45 : FVec Ideal S1x512 .f32) (v86 : FVec Ideal S128x128 .fp8e4m3) (v93 : FVec Ideal S1x128 .f32)
  (v132 : FVec Ideal S128x128 .fp8e4m3) (v139 : FVec Ideal S1x128 .f32) (v178 : FVec Ideal S128x128 .fp8e4m3) (v185 : FVec Ideal S1x128 .f32)
  (v209 : IVec S1x1 32) (v210 : FVec Ideal S128x128 .f32) (v214 v215 : IVec S1x1 32) (v233 : Vec Ideal S1x1x128x128 .fp8e4m3) (v241 : Elt Ideal .f32)
  (r d : Fin 128)

/-- The code of a weight, by the words of the inverse scale. -/
def kCodeW (x : EReal) (a b : BitVec 32) : EReal :=
  min (Ideal.ofBits .f32 1138753536#32) (max (Ideal.ofBits .f32 3286237184#32) (x * Ideal.ofBits .f32 (IntOp.shli ArithUnit.vector a b)))

theorem pay80_0 : k0_pay80 (F := Ideal) v14_2 v38 v45 v86 v93 v132 v139 v178 v185 v209 v210 v214 v215 v233 v241 (ix2 d ⟨r.val, by omega⟩)
    = Ideal.div (v14_2 (ix2 d ⟨r.val, by omega⟩) * v38 (ix2 0 ⟨r.val, by omega⟩) + (∑ x, v233 (ix4 0 0 d x) * v86 (ix2 x r)) * (v93 (ix2 0 r) * v241)) (v45 (ix2 0 ⟨r.val, by omega⟩)) := by
  pointwise [k0_pay80]

theorem pay80_1 : k0_pay80 (F := Ideal) v14_2 v38 v45 v86 v93 v132 v139 v178 v185 v209 v210 v214 v215 v233 v241 (ix2 d ⟨128 + r.val, by omega⟩)
    = Ideal.div (v14_2 (ix2 d ⟨128 + r.val, by omega⟩) * v38 (ix2 0 ⟨128 + r.val, by omega⟩) + (∑ x, v233 (ix4 0 0 d x) * v132 (ix2 x r)) * (v139 (ix2 0 r) * v241)) (v45 (ix2 0 ⟨128 + r.val, by omega⟩)) := by
  pointwise [k0_pay80]

theorem pay80_2 : k0_pay80 (F := Ideal) v14_2 v38 v45 v86 v93 v132 v139 v178 v185 v209 v210 v214 v215 v233 v241 (ix2 d ⟨256 + r.val, by omega⟩)
    = Ideal.div (v14_2 (ix2 d ⟨256 + r.val, by omega⟩) * v38 (ix2 0 ⟨256 + r.val, by omega⟩) + (∑ x, v233 (ix4 0 0 d x) * v178 (ix2 x r)) * (v185 (ix2 0 r) * v241)) (v45 (ix2 0 ⟨256 + r.val, by omega⟩)) := by
  pointwise [k0_pay80]
  have h1 : ¬ 256 + r.val < 128 := by omega
  have h2 : ¬ 256 + r.val - 128 < 128 := by omega
  have h3 : 256 + r.val - 128 - 128 < 128 := by omega
  have hi : ∀ h, (⟨256 + r.val - 128 - 128, h⟩ : Fin 128) = r := fun h => Fin.ext (by dsimp only; omega)
  simp only [dif_neg h1, dif_neg h2, dif_pos h3, hi]

theorem pay80_3 : k0_pay80 (F := Ideal) v14_2 v38 v45 v86 v93 v132 v139 v178 v185 v209 v210 v214 v215 v233 v241 (ix2 d ⟨384 + r.val, by omega⟩)
    = Ideal.div (v14_2 (ix2 d ⟨384 + r.val, by omega⟩) * v38 (ix2 0 ⟨384 + r.val, by omega⟩) + (∑ x, v233 (ix4 0 0 d x) * kCodeW (v210 (ix2 x r)) (v214 (ix2 0 0)) (v215 (ix2 0 0))) * (kScale (v209 (ix2 0 0)) * v241)) (v45 (ix2 0 ⟨384 + r.val, by omega⟩)) := by
  pointwise [k0_pay80]
  have h1 : ¬ 384 + r.val < 128 := by omega
  have h2 : ¬ 384 + r.val - 128 < 128 := by omega
  have h3 : ¬ 384 + r.val - 128 - 128 < 128 := by omega
  have hi : ∀ h, (⟨384 + r.val - 128 - 128 - 128, h⟩ : Fin 128) = r := fun h => Fin.ext (by dsimp only; omega)
  simp only [dif_neg h1, dif_neg h2, dif_neg h3, hi]
  rfl

theorem pay81_apply : k0_pay81 (F := Ideal) v14_2 v38 v45 v86 v93 v132 v139 v178 v185 v209 v210 v214 v215 v233 v241 (ix2 r d) = k0_pay80 (F := Ideal) v14_2 v38 v45 v86 v93 v132 v139 v178 v185 v209 v210 v214 v215 v233 v241 (ix2 d ⟨r.val, by omega⟩) := by
  pointwise [k0_pay81]

theorem pay82_apply : k0_pay82 (F := Ideal) v14_2 v38 v45 v86 v93 v132 v139 v178 v185 v209 v210 v214 v215 v233 v241 (ix2 r d) = k0_pay80 (F := Ideal) v14_2 v38 v45 v86 v93 v132 v139 v178 v185 v209 v210 v214 v215 v233 v241 (ix2 d ⟨128 + r.val, by omega⟩) := by
  pointwise [k0_pay82]

theorem pay83_apply : k0_pay83 (F := Ideal) v14_2 v38 v45 v86 v93 v132 v139 v178 v185 v209 v210 v214 v215 v233 v241 (ix2 r d) = k0_pay80 (F := Ideal) v14_2 v38 v45 v86 v93 v132 v139 v178 v185 v209 v210 v214 v215 v233 v241 (ix2 d ⟨256 + r.val, by omega⟩) := by
  pointwise [k0_pay83]

theorem pay1_apply (v : FVec Ideal S128x512 .f32) : k0_pay1 (F := Ideal) v (ix2 r d) = v (ix2 d ⟨384 + r.val, by omega⟩) := by
  pointwise [k0_pay1]

end Cert.KernelIdeal.Hand
-- ==== Proof.KernelAcc.lean ====
/-
  The new weighted sum of a step of the kernel, and the quotient of the last step, read at an index.
-/
module

public import proofs.«01_k».proof.Proof.KernelScore
public import proofs.«01_k».proof.Proof.KernelCodes
public import proofs.«01_k».proof.Proof.KernelConcat
public import proofs.«01_k».proof.Proof.FinalStep
public import proofs.«01_k».proof.Proof.FinalExp
public import proofs.«01_k».proof.Proof.FinalOut
public import Idealize.ShloMosaic.Lib.Pointwise

@[expose] public section

set_option maxRecDepth 16384
set_option maxHeartbeats 1000000

noncomputable section

namespace Cert.KernelIdeal.Hand

open Cert.KernelIdeal Cert.KernelIdeal.Gen Cert.Attn
open Idealize.ShloMosaic

section Loop

variable (v2 : FVec Ideal S512x128 .fp8e4m3) (v4 : FVec Ideal S1x512 .f32) (m l : FVec Ideal S1x512 .f32) (acc : FVec Ideal S128x512 .f32)
  (v266 : Vec Ideal S1x1x128x128 .fp8e4m3) (v270 : Elt Ideal .f32) (vt : Vec Ideal S1x1x128x128 .fp8e4m3) (vs : Elt Ideal .f32) (r d : Fin 128)

/-- The product of the codes of a step with the values. -/
def codesK : FVec Ideal S128x512 .f32 :=
  k0_pay22 (F := Ideal) (k0_pay5 (F := Ideal) v2 v4 m v266 v270) (k0_pay10 (k0_pay5 (F := Ideal) v2 v4 m v266 v270) (k0_pay8 (F := Ideal) v2 v4 m v266 v270)) (k0_pay14 (k0_pay5 (F := Ideal) v2 v4 m v266 v270) (k0_pay12 (k0_pay7 (F := Ideal) v2 v4 m v266 v270))) (k0_pay18 (k0_pay5 (F := Ideal) v2 v4 m v266 v270) (k0_pay16 (k0_pay7 (F := Ideal) v2 v4 m v266 v270))) (k0_pay20 (k0_pay7 (F := Ideal) v2 v4 m v266 v270)) vt

/-- The scales of a step. -/
def scalesK : FVec Ideal S128x512 .f32 :=
  k0_pay24 (F := Ideal) (k0_pay11 (k0_pay8 (F := Ideal) v2 v4 m v266 v270)) (k0_pay15 (k0_pay12 (k0_pay7 (F := Ideal) v2 v4 m v266 v270))) (k0_pay19 (k0_pay16 (k0_pay7 (F := Ideal) v2 v4 m v266 v270))) (k0_pay20 (k0_pay7 (F := Ideal) v2 v4 m v266 v270)) vs

theorem codesK_apply (g : Fin 4) : codesK v2 v4 m v266 v270 vt (ix2 d (col g r))
    = ∑ x, vt (ix4 0 0 d x) * kCode (tl (k0_pay5 (F := Ideal) v2 v4 m v266 v270) g r x) (eTile (tl (k0_pay5 (F := Ideal) v2 v4 m v266 v270) g)) := by
  have h := pay7_apply v2 v4 m v266 v270
  unfold codesK
  match g with
  | 0 => rw [← col_zero r (by omega), pay22_0]; simp only [pay10_apply, pay8_apply]
  | 1 => exact (pay22_1 ..).trans (by simp only [pay14_apply, pay12_apply _ _ h])
  | 2 => exact (pay22_2 ..).trans (by simp only [pay18_apply, pay16_apply _ _ h])
  | 3 => exact (pay22_3 ..).trans (by simp only [eFold, pay20_apply _ _ h])

theorem scalesK_apply (g : Fin 4) : scalesK v2 v4 m v266 v270 vs (ix2 d (col g r)) = kScale (eTile (tl (k0_pay5 (F := Ideal) v2 v4 m v266 v270) g)) * vs := by
  have h := pay7_apply v2 v4 m v266 v270
  unfold scalesK
  match g with
  | 0 => rw [← col_zero r (by omega), pay24_0]; simp only [pay11_apply, pay8_apply]
  | 1 => exact (pay24_1 ..).trans (by simp only [pay15_apply, pay12_apply _ _ h])
  | 2 => exact (pay24_2 ..).trans (by simp only [pay19_apply, pay16_apply _ _ h])
  | 3 => exact (pay24_3 ..).trans (by simp only [eFold, pay20_apply _ _ h])

theorem tl_pay5 (g : Fin 4) (c : Fin 128) : tl (k0_pay5 (F := Ideal) v2 v4 m v266 v270) g r c = pRow (m (ix2 0 (col g r))) (sK v2 v4 v266 v270 (col g r)) c := pay5_apply ..

/-- The new weighted sum of a step of the loop: the codes and their scales do not show. -/
theorem accK_apply (g : Fin 4) : k0_pay53 (F := Ideal) (codesK v2 v4 m v266 v270 vt) (k0_pay23 acc (k0_pay4 v2 v4 m v266 v270)) (scalesK v2 v4 m v266 v270 vs) (ix2 d (col g r))
    = accNew (m (ix2 0 (col g r))) (acc (ix2 d (col g r))) (sK v2 v4 v266 v270 (col g r)) (fun c => vt (ix4 0 0 d c)) vs := by
  pointwise [k0_pay53, k0_pay23]
  rw [codesK_apply, scalesK_apply, pay4_apply,
    kRequant _ (fun r c => by rw [tl_pay5]; exact pRow_nonneg _ _ _) (fun r c => by rw [tl_pay5]; exact pRow_le_one _ _ _) r (fun x => vt (ix4 0 0 d x)) vs]
  simp only [tl_pay5]
  rfl

end Loop

section Last

variable (m l : FVec Ideal S1x512 .f32) (acc s : FVec Ideal S128x512 .f32)
  (vt : Vec Ideal S1x1x128x128 .fp8e4m3) (vs : Elt Ideal .f32) (r d : Fin 128)

/-- The last step's quotient. -/
def outK : FVec Ideal S128x512 .f32 :=
  k0_pay80 (F := Ideal) acc (k0_pay57 m s) (k0_pay59 m l s) (k0_pay64 (k0_pay62 m s) (k0_pay63 m s)) (k0_pay65 (k0_pay61 m s))
    (k0_pay69 (k0_pay67 (k0_pay58 m s)) (k0_pay68 (k0_pay60 m s))) (k0_pay70 (k0_pay66 (k0_pay60 m s)))
    (k0_pay74 (k0_pay72 (k0_pay58 m s)) (k0_pay73 (k0_pay60 m s))) (k0_pay75 (k0_pay71 (k0_pay60 m s)))
    (k0_pay76 (k0_pay60 m s)) (k0_pay77 (k0_pay58 m s)) (k0_pay78 (k0_pay60 m s)) k0_pay79 vt vs

theorem tl_pay58 (g : Fin 4) (c : Fin 128) : tl (k0_pay58 (F := Ideal) m s) g r c = pRow (m (ix2 0 (col g r))) (fun c => s (ix2 c (col g r))) c := pay58_apply ..

theorem outK_codes (g : Fin 4) : outK m l acc s vt vs (ix2 d (col g r))
    = Ideal.div (acc (ix2 d (col g r)) * k0_pay57 (F := Ideal) m s (ix2 0 (col g r))
        + (∑ x, vt (ix4 0 0 d x) * kCode (tl (k0_pay58 (F := Ideal) m s) g r x) (eTile (tl (k0_pay58 (F := Ideal) m s) g)))
          * (kScale (eTile (tl (k0_pay58 (F := Ideal) m s) g)) * vs)) (k0_pay59 (F := Ideal) m l s (ix2 0 (col g r))) := by
  have h := pay60_apply m s
  unfold outK
  match g with
  | 0 =>
    rw [← col_zero r (by omega), pay80_0]
    have hc : ∀ x, k0_pay64 (F := Ideal) (k0_pay62 m s) (k0_pay63 m s) (ix2 x r) = kCode (tl (k0_pay58 (F := Ideal) m s) 0 r x) (eTile (tl (k0_pay58 (F := Ideal) m s) 0)) :=
      fun x => pay64_apply r x _ _ _ _ (pay62_apply ..) ((pay63_apply ..).trans (congrArg kInv (pay61_apply _ _ _ h)))
    simp only [hc, pay65_apply, pay61_apply _ _ _ h]
  | 1 =>
    refine (pay80_1 ..).trans ?_
    have hc : ∀ x, k0_pay69 (F := Ideal) (k0_pay67 (k0_pay58 m s)) (k0_pay68 (k0_pay60 m s)) (ix2 x r) = kCode (tl (k0_pay58 (F := Ideal) m s) 1 r x) (eTile (tl (k0_pay58 (F := Ideal) m s) 1)) :=
      fun x => pay69_apply r x _ _ _ _ (pay67_apply ..) ((pay68_apply ..).trans (congrArg kInv (pay66_apply _ _ h)))
    simp only [hc, pay70_apply, pay66_apply _ _ h]
    rfl
  | 2 =>
    refine (pay80_2 ..).trans ?_
    have hc : ∀ x, k0_pay74 (F := Ideal) (k0_pay72 (k0_pay58 m s)) (k0_pay73 (k0_pay60 m s)) (ix2 x r) = kCode (tl (k0_pay58 (F := Ideal) m s) 2 r x) (eTile (tl (k0_pay58 (F := Ideal) m s) 2)) :=
      fun x => pay74_apply r x _ _ _ _ (pay72_apply ..) ((pay73_apply ..).trans (congrArg kInv (pay71_apply _ _ h)))
    simp only [hc, pay75_apply, pay71_apply _ _ h]
    rfl
  | 3 =>
    refine (pay80_3 ..).trans ?_
    have hc : ∀ x, kCodeW (k0_pay77 (F := Ideal) (k0_pay58 m s) (ix2 x r)) (k0_pay78 (F := Ideal) (k0_pay60 m s) (ix2 0 0)) (k0_pay79 (ix2 0 0)) = kCode (tl (k0_pay58 (F := Ideal) m s) 3 r x) (eTile (tl (k0_pay58 (F := Ideal) m s) 3)) := by
      intro x
      rw [kCodeW, pay78_apply, pay76_apply _ _ h, pay77_apply, kCode]
    simp only [hc, pay76_apply _ _ h]
    rfl

/-- The last step: the weighted sum of all the blocks over the sum of the weights. -/
theorem outK_apply (g : Fin 4) : outK m l acc s vt vs (ix2 d (col g r))
    = Ideal.div (accNew (m (ix2 0 (col g r))) (acc (ix2 d (col g r))) (fun c => s (ix2 c (col g r))) (fun c => vt (ix4 0 0 d c)) vs)
        (lNew (m (ix2 0 (col g r))) (l (ix2 0 (col g r))) (fun c => s (ix2 c (col g r)))) := by
  rw [outK_codes, pay57_apply, pay59_apply,
    kRequant _ (fun r c => by rw [tl_pay58]; exact pRow_nonneg _ _ _) (fun r c => by rw [tl_pay58]; exact pRow_le_one _ _ _) r (fun x => vt (ix4 0 0 d x)) vs]
  simp only [tl_pay58]
  rfl

end Last

end Cert.KernelIdeal.Hand
-- ==== Proof.KernelTrip.lean ====
/-
  The loop of the kernel over the earlier key blocks and the last step, as the recursion of `Spec.lean`.
-/
module

public import proofs.«01_k».proof.Proof.KernelAcc
public import proofs.«01_k».proof.Proof.Gen.KernelIdeal.Value
public import Idealize.ShloMosaic.Lib.Pointwise
public import Idealize.ShloMosaic.Lib.LoopRemainder
public import Idealize.ShloMosaic.Lib.WholeRead
public import Idealize.ShloMosaic.Lib.Pipeline.ValueKit

@[expose] public section

set_option maxRecDepth 16384
set_option maxHeartbeats 1000000

noncomputable section

namespace Cert.KernelIdeal.Hand

open Cert.KernelIdeal Cert.KernelIdeal.Gen Cert.Attn
open Idealize.ShloMosaic Idealize.ShloMosaic.TcCoe Idealize.SL.Sem

/-! ## Where the loads lie -/

theorem lt256 (i : grid0.Coords) : (i 1).val < 256 := (i 1).isLt
theorem lt16 (i : grid0.Coords) : (i 0).val < 16 := (i 0).isLt

theorem trips1 (i : grid0.Coords) : (k0_t1_loop i).trips = (i 1).val := by
  have h : ∀ j : Fin 256, Scf.trips 0#32 (Scalar.addi 0#32 (Scalar.muli (Scalar.divsi (Scalar.subi (BitVec.ofNat 32 j.val) 0#32) 1#32) 1#32)) 1#32 = j.val := by
    decide +kernel
  exact h (i 1)

theorem trips2 (i : grid0.Coords) : (k0_t2_loop i).trips = 0 := Scf.rem_trips _ _

theorem word_iv : ∀ j : Fin 256, (Scalar.indexCast (Scf.iv 0#32 1#32 j.val)).toNat = j.val := by decide +kernel
theorem word_i : ∀ j : Fin 256, (Scalar.indexCast (BitVec.ofNat 32 j.val)).toNat = j.val := by decide +kernel

theorem lt1 (i : grid0.Coords) (k : Fin (k0_t1_loop i).trips) : k.val < (i 1).val := lt_of_lt_of_eq k.isLt (trips1 i)

theorem off1_val (i : grid0.Coords) (k : Fin (k0_t1_loop i).trips) : k0_off1 i k = ![0, k.val, 0, 0] := by
  have h := word_iv ⟨k.val, by have := lt1 i k; have := lt256 i; omega⟩
  funext a; fin_cases a
  · rfl
  · exact h
  · rfl
  · rfl

theorem off2_val (i : grid0.Coords) (k : Fin (k0_t1_loop i).trips) : k0_off2 i k = ![0, 0, k.val] := by
  have h := word_iv ⟨k.val, by have := lt1 i k; have := lt256 i; omega⟩
  funext a; fin_cases a
  · rfl
  · rfl
  · exact h

theorem off5_val (i : grid0.Coords) : k0_off5 i = ![0, (i 1).val, 0, 0] := by
  have h := word_i (i 1)
  funext a; fin_cases a
  · rfl
  · exact h
  · rfl
  · rfl

theorem off6_val (i : grid0.Coords) : k0_off6 i = ![0, 0, (i 1).val] := by
  have h := word_i (i 1)
  funext a; fin_cases a
  · rfl
  · rfl
  · exact h

/-- Tile `j` of the keys or of the values of a head. -/
theorem tile_read {m : Memref sig .tc .vmem S1x256x128x128 .fp8e4m3} (h : m.IsWhole) (x : Vec Ideal S1x256x128x128 .fp8e4m3)
    (off : Fin 4 → ℕ) (inb) (j : ℕ) (hj : j < 256) (ho : off = ![0, j, 0, 0]) (a b : Fin 128) :
    View.readAt (Elt Ideal) m.view (Rect.unit (s := S1x256x128x128) off S1x1x128x128.size inb).toLoadRect (h.unread x) (ix4 0 0 a b)
      = x (ix4 0 (Fin.ofNat 256 j) a b) := by
  subst ho
  rw [h.readAt_unread]
  refine congrArg x ?_
  funext z; fin_cases z
  · rfl
  · apply Fin.ext
    show j + 1 * 0 = j % 256
    omega
  · apply Fin.ext
    show 0 + 1 * a.val = a.val
    omega
  · apply Fin.ext
    show 0 + 1 * b.val = b.val
    omega

/-- The scale of block `j`. -/
theorem scale_read {m : Memref sig .tc .smem S1x1x256 .f32} (h : m.IsWhole) (x : Vec Ideal S1x1x256 .f32)
    (off : Fin 3 → ℕ) (inb) (j : ℕ) (hj : j < 256) (ho : off = ![0, 0, j]) (hf) :
    View.readAt (Elt Ideal) m.view (Rect.unit (s := S1x1x256) off S1x1x1.size inb).toLoadRect (h.unread x) (Shape.Idx.first hf)
      = x (ix3 0 0 (Fin.ofNat 256 j)) := by
  subst ho
  rw [h.readAt_unread]
  refine congrArg x ?_
  funext z; fin_cases z
  · rfl
  · rfl
  · apply Fin.ext
    show j + 1 * 0 = j % 256
    omega

theorem q_read {m : Memref sig .tc .vmem S4x1x128x128 .fp8e4m3} (h : m.IsWhole) (x : Vec Ideal S4x1x128x128 .fp8e4m3) (g : Fin 4) (a b : Fin 128) :
    View.readAt (Elt Ideal) m.view (Rect.unit (s := S4x1x128x128) ![0, 0, 0, 0] S4x1x128x128.size inb_S4x1x128x128_S4x1x128x128_0_0_0_0).toLoadRect (h.unread x) (ix4 g 0 a b)
      = x (ix4 g 0 a b) := by
  rw [h.readAt_unread]
  refine congrArg x ?_
  funext z; fin_cases z
  · apply Fin.ext
    show 0 + 1 * g.val = g.val
    omega
  · rfl
  · apply Fin.ext
    show 0 + 1 * a.val = a.val
    omega
  · apply Fin.ext
    show 0 + 1 * b.val = b.val
    omega

theorem qs_read {m : Memref sig .tc .vmem S1x1x512 .f32} (h : m.IsWhole) (x : Vec Ideal S1x1x512 .f32) (a : Fin 512) :
    View.readAt (Elt Ideal) m.view (Rect.unit (s := S1x1x512) ![0, 0, 0] S1x1x512.size inb_S1x1x512_S1x1x512_0_0_0).toLoadRect (h.unread x) (ix3 0 0 a)
      = x (ix3 0 0 a) := by
  rw [h.readAt_unread]
  refine congrArg x ?_
  funext z; fin_cases z
  · rfl
  · rfl
  · apply Fin.ext
    show 0 + 1 * a.val = a.val
    omega

/-! ## The loop over the earlier key blocks -/

/-- One trip of the loop, as what it yields. -/
theorem tripR_eq (𝒱 : Variants) (c : Dev nD) (bd : Option 𝒱.V) (i : grid0.Coords) (arg2 : Memref sig .tc .smem S1x1x256 .f32) (harg2 : arg2.IsWhole) (arg3 : Memref sig .tc .smem S1x1x256 .f32) (harg3 : arg3.IsWhole) (arg4 : Memref sig .tc .vmem S4x1x128x128 .fp8e4m3) (harg4 : arg4.IsWhole) (arg5 : Memref sig .tc .vmem S1x1x512 .f32) (harg5 : arg5.IsWhole) (arg6 : Memref sig .tc .vmem S1x256x128x128 .fp8e4m3) (harg6 : arg6.IsWhole) (arg7 : Memref sig .tc .vmem S1x256x128x128 .fp8e4m3) (harg7 : arg7.IsWhole) (arg8 : Memref sig .tc .vmem S128x512 .bf16) (harg8 : arg8.IsWhole) (v0 : Vec Ideal S4x1x128x128 .fp8e4m3) (v3 : Vec Ideal S1x1x512 .f32)
    (x0 : Vec Ideal S1x1x256 .f32) (x1 : Vec Ideal S1x1x256 .f32) (x4 : Vec Ideal S1x256x128x128 .fp8e4m3) (x5 : Vec Ideal S1x256x128x128 .fp8e4m3) (k : Fin (k0_t1_loop i).trips) (acc : FVec Ideal S1x512 .f32 × FVec Ideal S1x512 .f32 × FVec Ideal S128x512 .f32) :
    tripR_k0_t1 (F := Ideal) 𝒱 c bd i arg2 harg2 arg3 harg3 arg4 harg4 arg5 harg5 arg6 harg6 arg7 harg7 arg8 harg8 v0 v3 (harg2.unread x0) (harg3.unread x1) (harg6.unread x4) (harg7.unread x5) k acc
      = (k0_pay3 (k0_pay48 v0) (k0_pay49 v3) acc.1 (View.readAt (Elt Ideal) arg6.view (Rect.unit (s := S1x256x128x128) (k0_off1 i k) S1x1x128x128.size (k0_off1_inb i k)).toLoadRect (harg6.unread x4)) (View.readAt (Elt Ideal) arg2.view (Rect.unit (s := S1x1x256) (k0_off2 i k) S1x1x1.size (k0_off2_inb i k)).toLoadRect (harg2.unread x0) (Shape.Idx.first (show 0 < S1x1x1.numel by rw [numel1_S1x1x1]; exact Nat.one_pos))),
         k0_pay6 (k0_pay48 v0) (k0_pay49 v3) acc.1 acc.2.1 (View.readAt (Elt Ideal) arg6.view (Rect.unit (s := S1x256x128x128) (k0_off1 i k) S1x1x128x128.size (k0_off1_inb i k)).toLoadRect (harg6.unread x4)) (View.readAt (Elt Ideal) arg2.view (Rect.unit (s := S1x1x256) (k0_off2 i k) S1x1x1.size (k0_off2_inb i k)).toLoadRect (harg2.unread x0) (Shape.Idx.first (show 0 < S1x1x1.numel by rw [numel1_S1x1x1]; exact Nat.one_pos))),
         k0_pay53 (codesK (k0_pay48 v0) (k0_pay49 v3) acc.1 (View.readAt (Elt Ideal) arg6.view (Rect.unit (s := S1x256x128x128) (k0_off1 i k) S1x1x128x128.size (k0_off1_inb i k)).toLoadRect (harg6.unread x4)) (View.readAt (Elt Ideal) arg2.view (Rect.unit (s := S1x1x256) (k0_off2 i k) S1x1x1.size (k0_off2_inb i k)).toLoadRect (harg2.unread x0) (Shape.Idx.first (show 0 < S1x1x1.numel by rw [numel1_S1x1x1]; exact Nat.one_pos))) (View.readAt (Elt Ideal) arg7.view (Rect.unit (s := S1x256x128x128) (k0_off1 i k) S1x1x128x128.size (k0_off1_inb i k)).toLoadRect (harg7.unread x5)))
           (k0_pay23 acc.2.2 (k0_pay4 (k0_pay48 v0) (k0_pay49 v3) acc.1 (View.readAt (Elt Ideal) arg6.view (Rect.unit (s := S1x256x128x128) (k0_off1 i k) S1x1x128x128.size (k0_off1_inb i k)).toLoadRect (harg6.unread x4)) (View.readAt (Elt Ideal) arg2.view (Rect.unit (s := S1x1x256) (k0_off2 i k) S1x1x1.size (k0_off2_inb i k)).toLoadRect (harg2.unread x0) (Shape.Idx.first (show 0 < S1x1x1.numel by rw [numel1_S1x1x1]; exact Nat.one_pos)))))
           (scalesK (k0_pay48 v0) (k0_pay49 v3) acc.1 (View.readAt (Elt Ideal) arg6.view (Rect.unit (s := S1x256x128x128) (k0_off1 i k) S1x1x128x128.size (k0_off1_inb i k)).toLoadRect (harg6.unread x4)) (View.readAt (Elt Ideal) arg2.view (Rect.unit (s := S1x1x256) (k0_off2 i k) S1x1x1.size (k0_off2_inb i k)).toLoadRect (harg2.unread x0) (Shape.Idx.first (show 0 < S1x1x1.numel by rw [numel1_S1x1x1]; exact Nat.one_pos))) (View.readAt (Elt Ideal) arg3.view (Rect.unit (s := S1x1x256) (k0_off2 i k) S1x1x1.size (k0_off2_inb i k)).toLoadRect (harg3.unread x1) (Shape.Idx.first (show 0 < S1x1x1.numel by rw [numel1_S1x1x1]; exact Nat.one_pos))))) := by
  rw [tripR_k0_t1, trip_k0_t1.eq_1]
  rfl

/-- One trip of the loop, read in column `128 * g + r`. -/
theorem trip1_val (𝒱 : Variants) (c : Dev nD) (bd : Option 𝒱.V) (i : grid0.Coords) (arg2 : Memref sig .tc .smem S1x1x256 .f32) (harg2 : arg2.IsWhole) (arg3 : Memref sig .tc .smem S1x1x256 .f32) (harg3 : arg3.IsWhole) (arg4 : Memref sig .tc .vmem S4x1x128x128 .fp8e4m3) (harg4 : arg4.IsWhole) (arg5 : Memref sig .tc .vmem S1x1x512 .f32) (harg5 : arg5.IsWhole) (arg6 : Memref sig .tc .vmem S1x256x128x128 .fp8e4m3) (harg6 : arg6.IsWhole) (arg7 : Memref sig .tc .vmem S1x256x128x128 .fp8e4m3) (harg7 : arg7.IsWhole) (arg8 : Memref sig .tc .vmem S128x512 .bf16) (harg8 : arg8.IsWhole) (v0 : Vec Ideal S4x1x128x128 .fp8e4m3) (v3 : Vec Ideal S1x1x512 .f32)
    (x0 : Vec Ideal S1x1x256 .f32) (x1 : Vec Ideal S1x1x256 .f32) (x4 : Vec Ideal S1x256x128x128 .fp8e4m3) (x5 : Vec Ideal S1x256x128x128 .fp8e4m3) (k : Fin (k0_t1_loop i).trips) (acc : FVec Ideal S1x512 .f32 × FVec Ideal S1x512 .f32 × FVec Ideal S128x512 .f32)
    (g : Fin 4) (r d : Fin 128) (z : EReal × EReal × EReal)
    (hm : acc.1 (ix2 0 (col g r)) = z.1) (hl : acc.2.1 (ix2 0 (col g r)) = z.2.1) (ha : acc.2.2 (ix2 d (col g r)) = z.2.2) (s : Fin 128 → EReal)
    (hs : ∀ c, score (fun x => v0 (ix4 g 0 r x)) (fun x => x4 (ix4 0 (Fin.ofNat 256 k.val) c x))
      (v3 (ix3 0 0 (col g r)) * x0 (ix3 0 0 (Fin.ofNat 256 k.val))) (i 1).val k.val r c = s c) :
    let a := tripR_k0_t1 (F := Ideal) 𝒱 c bd i arg2 harg2 arg3 harg3 arg4 harg4 arg5 harg5 arg6 harg6 arg7 harg7 arg8 harg8 v0 v3 (harg2.unread x0) (harg3.unread x1) (harg6.unread x4) (harg7.unread x5) k acc
    a.1 (ix2 0 (col g r)) = mNew z.1 s ∧ a.2.1 (ix2 0 (col g r)) = lNew z.1 z.2.1 s
    ∧ a.2.2 (ix2 d (col g r)) = accNew z.1 z.2.2 s (fun c => x5 (ix4 0 (Fin.ofNat 256 k.val) d c)) (x1 (ix3 0 0 (Fin.ofNat 256 k.val))) := by
  have hk := lt1 i k
  have hi := lt256 i
  have hsc : sK (k0_pay48 v0) (k0_pay49 v3) (View.readAt (Elt Ideal) arg6.view (Rect.unit (s := S1x256x128x128) (k0_off1 i k) S1x1x128x128.size (k0_off1_inb i k)).toLoadRect (harg6.unread x4)) (View.readAt (Elt Ideal) arg2.view (Rect.unit (s := S1x1x256) (k0_off2 i k) S1x1x1.size (k0_off2_inb i k)).toLoadRect (harg2.unread x0) (Shape.Idx.first (show 0 < S1x1x1.numel by rw [numel1_S1x1x1]; exact Nat.one_pos))) (col g r) = s := by
    rw [sK_score v0 v3 _ _ (i 1).val k.val hk g r]
    funext c
    rw [← hs c, scale_read harg2 x0 _ _ k.val (by omega) (off2_val i k)]
    exact congrArg (fun K => score _ K _ _ _ r c) (funext fun x => tile_read harg6 x4 _ _ k.val (by omega) (off1_val i k) c x)
  dsimp only
  rw [tripR_eq]
  refine ⟨?_, ?_, ?_⟩
  · refine (pay3_apply ..).trans ?_
    rw [hm, hsc]
  · refine (pay6_apply ..).trans ?_
    rw [hm, hl, hsc]
  · refine (accK_apply ..).trans ?_
    rw [hm, ha, hsc, scale_read harg3 x1 _ _ k.val (by omega) (off2_val i k)]
    exact congrArg (fun V => accNew z.1 z.2.2 s V _) (funext fun c => tile_read harg7 x5 _ _ k.val (by omega) (off1_val i k) d c)

/-- The carried value before trip `j`. -/
theorem st1_val (c : Dev nD) (i : grid0.Coords) (arg2 : Memref sig .tc .smem S1x1x256 .f32) (harg2 : arg2.IsWhole) (arg3 : Memref sig .tc .smem S1x1x256 .f32) (harg3 : arg3.IsWhole) (arg4 : Memref sig .tc .vmem S4x1x128x128 .fp8e4m3) (harg4 : arg4.IsWhole) (arg5 : Memref sig .tc .vmem S1x1x512 .f32) (harg5 : arg5.IsWhole) (arg6 : Memref sig .tc .vmem S1x256x128x128 .fp8e4m3) (harg6 : arg6.IsWhole) (arg7 : Memref sig .tc .vmem S1x256x128x128 .fp8e4m3) (harg7 : arg7.IsWhole) (arg8 : Memref sig .tc .vmem S128x512 .bf16) (harg8 : arg8.IsWhole) (v0 : Vec Ideal S4x1x128x128 .fp8e4m3) (v3 : Vec Ideal S1x1x512 .f32)
    (x0 : Vec Ideal S1x1x256 .f32) (x1 : Vec Ideal S1x1x256 .f32) (x4 : Vec Ideal S1x256x128x128 .fp8e4m3) (x5 : Vec Ideal S1x256x128x128 .fp8e4m3) (g : Fin 4) (r d : Fin 128) (s : ℕ → Fin 128 → EReal)
    (hs : ∀ j c, score (fun x => v0 (ix4 g 0 r x)) (fun x => x4 (ix4 0 (Fin.ofNat 256 j) c x))
      (v3 (ix3 0 0 (col g r)) * x0 (ix3 0 0 (Fin.ofNat 256 j))) (i 1).val j r c = s j c) (j : ℕ) (hj : j ≤ (k0_t1_loop i).trips) :
    let z := attn s (fun j c => x5 (ix4 0 (Fin.ofNat 256 j) d c)) (fun j => x1 (ix3 0 0 (Fin.ofNat 256 j))) j
    let a := st_k0_t1 (F := Ideal) Variants.none c none i arg2 harg2 arg3 harg3 arg4 harg4 arg5 harg5 arg6 harg6 arg7 harg7 arg8 harg8 v0 v3 (harg2.unread x0) (harg3.unread x1) (harg6.unread x4) (harg7.unread x5) (k0_pay50, k0_pay51, k0_pay52) j
    a.1 (ix2 0 (col g r)) = z.1 ∧ a.2.1 (ix2 0 (col g r)) = z.2.1 ∧ a.2.2 (ix2 d (col g r)) = z.2.2 := by
  induction j with
  | zero =>
    dsimp only [attn, st_k0_t1]
    refine ⟨?_, ?_, ?_⟩
    · pointwise [k0_pay50]; exact ofBits_negInf
    · pointwise [k0_pay51]
    · pointwise [k0_pay52]
  | succ j ih =>
    obtain ⟨hm, hl, ha⟩ := ih (by omega)
    have e := st_k0_t1_succ (F := Ideal) Variants.none c none i arg2 harg2 arg3 harg3 arg4 harg4 arg5 harg5 arg6 harg6 arg7 harg7 arg8 harg8 v0 v3 (harg2.unread x0) (harg3.unread x1) (harg6.unread x4) (harg7.unread x5) (k0_pay50, k0_pay51, k0_pay52) ⟨j, hj⟩
    dsimp only at e ⊢
    rw [e]
    exact trip1_val Variants.none c none i arg2 harg2 arg3 harg3 arg4 harg4 arg5 harg5 arg6 harg6 arg7 harg7 arg8 harg8 v0 v3 x0 x1 x4 x5 ⟨j, hj⟩ _ g r d _ hm hl ha (s j) (hs j)

/-! ## The block of the result -/

/-- What the kernel stores at a grid point, before it is cut into tiles. -/
def tileK (c : Dev nD) (i : grid0.Coords) (arg2 : Memref sig .tc .smem S1x1x256 .f32) (harg2 : arg2.IsWhole) (arg3 : Memref sig .tc .smem S1x1x256 .f32) (harg3 : arg3.IsWhole) (arg4 : Memref sig .tc .vmem S4x1x128x128 .fp8e4m3) (harg4 : arg4.IsWhole) (arg5 : Memref sig .tc .vmem S1x1x512 .f32) (harg5 : arg5.IsWhole) (arg6 : Memref sig .tc .vmem S1x256x128x128 .fp8e4m3) (harg6 : arg6.IsWhole) (arg7 : Memref sig .tc .vmem S1x256x128x128 .fp8e4m3) (harg7 : arg7.IsWhole) (arg8 : Memref sig .tc .vmem S128x512 .bf16) (harg8 : arg8.IsWhole) (x0 : Vec Ideal S1x1x256 .f32) (x1 : Vec Ideal S1x1x256 .f32) (x2 : Vec Ideal S4x1x128x128 .fp8e4m3) (x3 : Vec Ideal S1x1x512 .f32) (x4 : Vec Ideal S1x256x128x128 .fp8e4m3) (x5 : Vec Ideal S1x256x128x128 .fp8e4m3) : FVec Ideal S128x512 .f32 :=
  let v0 := (View.readAt (Elt Ideal) arg4.view (Rect.unit (s := S4x1x128x128) ![0, 0, 0, 0] S4x1x128x128.size inb_S4x1x128x128_S4x1x128x128_0_0_0_0).toLoadRect (harg4.unread x2))
  let v3 := (View.readAt (Elt Ideal) arg5.view (Rect.unit (s := S1x1x512) ![0, 0, 0] S1x1x512.size inb_S1x1x512_S1x1x512_0_0_0).toLoadRect (harg5.unread x3))
  let a := st_k0_t1 (F := Ideal) Variants.none c none i arg2 harg2 arg3 harg3 arg4 harg4 arg5 harg5 arg6 harg6 arg7 harg7 arg8 harg8 v0 v3 (harg2.unread x0) (harg3.unread x1) (harg6.unread x4) (harg7.unread x5) (k0_pay50, k0_pay51, k0_pay52) (k0_t1_loop i).trips
  outK a.1 a.2.1 a.2.2 (k0_pay55 v0 v3 (View.readAt (Elt Ideal) arg6.view (Rect.unit (s := S1x256x128x128) (k0_off5 i) S1x1x128x128.size (k0_off5_inb i)).toLoadRect (harg6.unread x4)) (View.readAt (Elt Ideal) arg2.view (Rect.unit (s := S1x1x256) (k0_off6 i) S1x1x1.size (k0_off6_inb i)).toLoadRect (harg2.unread x0) (Shape.Idx.first (show 0 < S1x1x1.numel by rw [numel1_S1x1x1]; exact Nat.one_pos)))) (View.readAt (Elt Ideal) arg7.view (Rect.unit (s := S1x256x128x128) (k0_off5 i) S1x1x128x128.size (k0_off5_inb i)).toLoadRect (harg7.unread x5)) (View.readAt (Elt Ideal) arg3.view (Rect.unit (s := S1x1x256) (k0_off6 i) S1x1x1.size (k0_off6_inb i)).toLoadRect (harg3.unread x1) (Shape.Idx.first (show 0 < S1x1x1.numel by rw [numel1_S1x1x1]; exact Nat.one_pos)))

theorem r28_eq (c : Dev nD) (i : grid0.Coords) (arg2 : Memref sig .tc .smem S1x1x256 .f32) (harg2 : arg2.IsWhole) (arg3 : Memref sig .tc .smem S1x1x256 .f32) (harg3 : arg3.IsWhole) (arg4 : Memref sig .tc .vmem S4x1x128x128 .fp8e4m3) (harg4 : arg4.IsWhole) (arg5 : Memref sig .tc .vmem S1x1x512 .f32) (harg5 : arg5.IsWhole) (arg6 : Memref sig .tc .vmem S1x256x128x128 .fp8e4m3) (harg6 : arg6.IsWhole) (arg7 : Memref sig .tc .vmem S1x256x128x128 .fp8e4m3) (harg7 : arg7.IsWhole) (arg8 : Memref sig .tc .vmem S128x512 .bf16) (harg8 : arg8.IsWhole) (x0 : Vec Ideal S1x1x256 .f32) (x1 : Vec Ideal S1x1x256 .f32) (x2 : Vec Ideal S4x1x128x128 .fp8e4m3) (x3 : Vec Ideal S1x1x512 .f32) (x4 : Vec Ideal S1x256x128x128 .fp8e4m3) (x5 : Vec Ideal S1x256x128x128 .fp8e4m3) :
    kernelRun0_A.sl.r_28 (F := Ideal) c i arg2 harg2 arg3 harg3 arg4 harg4 arg5 harg5 arg6 harg6 arg7 harg7 arg8 harg8 x0 x1 x2 x3 x4 x5 = tileK c i arg2 harg2 arg3 harg3 arg4 harg4 arg5 harg5 arg6 harg6 arg7 harg7 arg8 harg8 x0 x1 x2 x3 x4 x5 := by
  have h2 : ∀ v0 v3 v12 X2 X3 X6 X7 init, st_k0_t2 (F := Ideal) Variants.none c none i arg2 harg2 arg3 harg3 arg4 harg4 arg5 harg5 arg6 harg6 arg7 harg7 arg8 harg8 v0 v3 v12 X2 X3 X6 X7 init (Scf.trips (k0_t2_loop i).lb (k0_t2_loop i).ub (k0_t2_loop i).st) = init := by
    intro v0 v3 v12 X2 X3 X6 X7 init
    rw [show Scf.trips (k0_t2_loop i).lb (k0_t2_loop i).ub (k0_t2_loop i).st = 0 from trips2 i]
    rfl
  have e1 : kernelRun0_A.sl.r_1 (F := Ideal) c i arg2 harg2 arg3 harg3 arg4 harg4 arg5 harg5 arg6 harg6 arg7 harg7 arg8 harg8 x0 x1 x2 x3 x4 x5 = (st_k0_t1 (F := Ideal) Variants.none c none i arg2 harg2 arg3 harg3 arg4 harg4 arg5 harg5 arg6 harg6 arg7 harg7 arg8 harg8 (View.readAt (Elt Ideal) arg4.view (Rect.unit (s := S4x1x128x128) ![0, 0, 0, 0] S4x1x128x128.size inb_S4x1x128x128_S4x1x128x128_0_0_0_0).toLoadRect (harg4.unread x2)) (View.readAt (Elt Ideal) arg5.view (Rect.unit (s := S1x1x512) ![0, 0, 0] S1x1x512.size inb_S1x1x512_S1x1x512_0_0_0).toLoadRect (harg5.unread x3)) (harg2.unread x0) (harg3.unread x1) (harg6.unread x4) (harg7.unread x5) (k0_pay50, k0_pay51, k0_pay52) (k0_t1_loop i).trips).1 :=
    congrArg (fun z => z.1) (h2 _ _ _ _ _ _ _ _)
  have e2 : kernelRun0_A.sl.r_2 (F := Ideal) c i arg2 harg2 arg3 harg3 arg4 harg4 arg5 harg5 arg6 harg6 arg7 harg7 arg8 harg8 x0 x1 x2 x3 x4 x5 = (st_k0_t1 (F := Ideal) Variants.none c none i arg2 harg2 arg3 harg3 arg4 harg4 arg5 harg5 arg6 harg6 arg7 harg7 arg8 harg8 (View.readAt (Elt Ideal) arg4.view (Rect.unit (s := S4x1x128x128) ![0, 0, 0, 0] S4x1x128x128.size inb_S4x1x128x128_S4x1x128x128_0_0_0_0).toLoadRect (harg4.unread x2)) (View.readAt (Elt Ideal) arg5.view (Rect.unit (s := S1x1x512) ![0, 0, 0] S1x1x512.size inb_S1x1x512_S1x1x512_0_0_0).toLoadRect (harg5.unread x3)) (harg2.unread x0) (harg3.unread x1) (harg6.unread x4) (harg7.unread x5) (k0_pay50, k0_pay51, k0_pay52) (k0_t1_loop i).trips).2.1 :=
    congrArg (fun z => z.2.1) (h2 _ _ _ _ _ _ _ _)
  have e3 : kernelRun0_A.sl.r_3 (F := Ideal) c i arg2 harg2 arg3 harg3 arg4 harg4 arg5 harg5 arg6 harg6 arg7 harg7 arg8 harg8 x0 x1 x2 x3 x4 x5 = (st_k0_t1 (F := Ideal) Variants.none c none i arg2 harg2 arg3 harg3 arg4 harg4 arg5 harg5 arg6 harg6 arg7 harg7 arg8 harg8 (View.readAt (Elt Ideal) arg4.view (Rect.unit (s := S4x1x128x128) ![0, 0, 0, 0] S4x1x128x128.size inb_S4x1x128x128_S4x1x128x128_0_0_0_0).toLoadRect (harg4.unread x2)) (View.readAt (Elt Ideal) arg5.view (Rect.unit (s := S1x1x512) ![0, 0, 0] S1x1x512.size inb_S1x1x512_S1x1x512_0_0_0).toLoadRect (harg5.unread x3)) (harg2.unread x0) (harg3.unread x1) (harg6.unread x4) (harg7.unread x5) (k0_pay50, k0_pay51, k0_pay52) (k0_t1_loop i).trips).2.2 :=
    congrArg (fun z => z.2.2) (h2 _ _ _ _ _ _ _ _)
  unfold tileK
  dsimp only
  rw [← e1, ← e2, ← e3]
  rfl

/-- The entry of the block that row `a` and column `b` of tile `g` hold. -/
theorem piece_idx (T : FVec Ideal S128x512 .f32) (g : Fin 4) (a b : Fin 128) (y : S128x512.Idx) (h0 : (y 0).val = a.val) (h1 : (y 1).val = 128 * g.val + b.val)
    (p0 p1 p2) : T (ix2 ⟨(y 1).val % 128, p0⟩ (col ⟨(y 1).val / 128, p1⟩ ⟨(y 0).val, p2⟩)) = T (ix2 b (col g a)) := by
  have e0 : (⟨(y 1).val % 128, p0⟩ : Fin 128) = b := Fin.ext (by dsimp only; omega)
  have e1 : (⟨(y 1).val / 128, p1⟩ : Fin 4) = g := Fin.ext (by dsimp only; omega)
  have e2 : (⟨(y 0).val, p2⟩ : Fin 128) = a := Fin.ext h0
  rw [e0, e1, e2]

/-- A stored entry: row `r`, column `128 * g + d`. -/
theorem out_val (c : Dev nD) (i : grid0.Coords) (arg2 : Memref sig .tc .smem S1x1x256 .f32) (harg2 : arg2.IsWhole) (arg3 : Memref sig .tc .smem S1x1x256 .f32) (harg3 : arg3.IsWhole) (arg4 : Memref sig .tc .vmem S4x1x128x128 .fp8e4m3) (harg4 : arg4.IsWhole) (arg5 : Memref sig .tc .vmem S1x1x512 .f32) (harg5 : arg5.IsWhole) (arg6 : Memref sig .tc .vmem S1x256x128x128 .fp8e4m3) (harg6 : arg6.IsWhole) (arg7 : Memref sig .tc .vmem S1x256x128x128 .fp8e4m3) (harg7 : arg7.IsWhole) (arg8 : Memref sig .tc .vmem S128x512 .bf16) (harg8 : arg8.IsWhole) (x0 : Vec Ideal S1x1x256 .f32) (x1 : Vec Ideal S1x1x256 .f32) (x2 : Vec Ideal S4x1x128x128 .fp8e4m3) (x3 : Vec Ideal S1x1x512 .f32) (x4 : Vec Ideal S1x256x128x128 .fp8e4m3) (x5 : Vec Ideal S1x256x128x128 .fp8e4m3) (g : Fin 4) (r d : Fin 128) :
    out0_A_6 (F := Ideal) c i arg2 harg2 arg3 harg3 arg4 harg4 arg5 harg5 arg6 harg6 arg7 harg7 arg8 harg8 x0 x1 x2 x3 x4 x5 (ix2 r (col g d)) = tileK c i arg2 harg2 arg3 harg3 arg4 harg4 arg5 harg5 arg6 harg6 arg7 harg7 arg8 harg8 x0 x1 x2 x3 x4 x5 (ix2 d (col g r)) := by
  unfold out0_A_6
  refine (View.read_writes_apply_of_pieces VO0_6 VO0_6.junk
    (fun y => tileK c i arg2 harg2 arg3 harg3 arg4 harg4 arg5 harg5 arg6 harg6 arg7 harg7 arg8 harg8 x0 x1 x2 x3 x4 x5 (ix2 ⟨(y 1).val % 128, by omega⟩ (col ⟨(y 1).val / 128, by have := (y 1).isLt; change (y 1).val < 512 at this; omega⟩ ⟨(y 0).val, (y 0).isLt⟩)))
    _ ?_ _ (cover0_A_6 c i arg2 harg2 arg3 harg3 arg4 harg4 arg5 harg5 arg6 harg6 arg7 harg7 arg8 harg8 x0 x1 x2 x3 x4 x5 _)).trans ?_
  · unfold kernelRun0_A
    dsimp only
    rw [← r28_eq]
    intro p hp
    simp only [List.mem_cons, List.not_mem_nil, or_false] at hp
    rcases hp with rfl | rfl | rfl | rfl
    · intro x
      obtain ⟨a, b, rfl⟩ : ∃ a b : Fin 128, x = ix2 a b := ⟨x 0, x 1, by funext z; fin_cases z <;> rfl⟩
      refine (pay1_apply a b _).trans (Eq.symm ?_)
      refine piece_idx _ 3 a b _ ?_ ?_ _ _ _
      · show 0 + 1 * a.val = a.val; omega
      · show 384 + 1 * b.val = 128 * 3 + b.val; omega
    · intro x
      obtain ⟨a, b, rfl⟩ : ∃ a b : Fin 128, x = ix2 a b := ⟨x 0, x 1, by funext z; fin_cases z <;> rfl⟩
      refine (pay83_apply ..).trans (Eq.symm ?_)
      refine piece_idx _ 2 a b _ ?_ ?_ _ _ _
      · show 0 + 1 * a.val = a.val; omega
      · show 256 + 1 * b.val = 128 * 2 + b.val; omega
    · intro x
      obtain ⟨a, b, rfl⟩ : ∃ a b : Fin 128, x = ix2 a b := ⟨x 0, x 1, by funext z; fin_cases z <;> rfl⟩
      refine (pay82_apply ..).trans (Eq.symm ?_)
      refine piece_idx _ 1 a b _ ?_ ?_ _ _ _
      · show 0 + 1 * a.val = a.val; omega
      · show 128 + 1 * b.val = 128 * 1 + b.val; omega
    · intro x
      obtain ⟨a, b, rfl⟩ : ∃ a b : Fin 128, x = ix2 a b := ⟨x 0, x 1, by funext z; fin_cases z <;> rfl⟩
      refine (pay81_apply ..).trans (Eq.symm ?_)
      rw [col_zero]
      refine piece_idx _ 0 a b _ ?_ ?_ _ _ _
      · show 0 + 1 * a.val = a.val; omega
      · show 0 + 1 * b.val = 128 * 0 + b.val; omega
  · exact piece_idx _ g r d _ rfl rfl _ _ _

/-- The attention of query block `i 1` and of query head `g` of the group, at row `r` and column `d`. -/
theorem tileK_val (c : Dev nD) (i : grid0.Coords) (arg2 : Memref sig .tc .smem S1x1x256 .f32) (harg2 : arg2.IsWhole) (arg3 : Memref sig .tc .smem S1x1x256 .f32) (harg3 : arg3.IsWhole) (arg4 : Memref sig .tc .vmem S4x1x128x128 .fp8e4m3) (harg4 : arg4.IsWhole) (arg5 : Memref sig .tc .vmem S1x1x512 .f32) (harg5 : arg5.IsWhole) (arg6 : Memref sig .tc .vmem S1x256x128x128 .fp8e4m3) (harg6 : arg6.IsWhole) (arg7 : Memref sig .tc .vmem S1x256x128x128 .fp8e4m3) (harg7 : arg7.IsWhole) (arg8 : Memref sig .tc .vmem S128x512 .bf16) (harg8 : arg8.IsWhole) (x0 : Vec Ideal S1x1x256 .f32) (x1 : Vec Ideal S1x1x256 .f32) (x2 : Vec Ideal S4x1x128x128 .fp8e4m3) (x3 : Vec Ideal S1x1x512 .f32) (x4 : Vec Ideal S1x256x128x128 .fp8e4m3) (x5 : Vec Ideal S1x256x128x128 .fp8e4m3) (g : Fin 4) (r d : Fin 128) (n : Fin 64) (hn : n.val = 4 * (i 0).val + g.val)
    (q : Fin 32768 → Fin 64 → Fin 128 → EReal) (qs : Fin 256 → Fin 64 → EReal) (k : Fin 32768 → Fin 16 → Fin 128 → EReal)
    (ks : Fin 256 → Fin 16 → EReal) (v : Fin 32768 → Fin 16 → Fin 128 → EReal) (vs : Fin 256 → Fin 16 → EReal)
    (e0 : ∀ b, x0 (ix3 0 0 b) = ks b ⟨(i 0).val, lt16 i⟩) (e1 : ∀ b, x1 (ix3 0 0 b) = vs b ⟨(i 0).val, lt16 i⟩)
    (e2 : ∀ (x : Fin 128) h, x2 (ix4 g 0 r x) = q ⟨128 * (i 1).val + r.val, h⟩ n x)
    (e3 : x3 (ix3 0 0 (col g r)) = qs ⟨(i 1).val, lt256 i⟩ n)
    (e4 : ∀ (j : Fin 256) (a x : Fin 128), x4 (ix4 0 j a x) = k (Fin.ofNat 32768 (128 * j.val + a.val)) ⟨(i 0).val, lt16 i⟩ x)
    (e5 : ∀ (j : Fin 256) (a x : Fin 128), x5 (ix4 0 j x a) = v (Fin.ofNat 32768 (128 * j.val + a.val)) ⟨(i 0).val, lt16 i⟩ x) :
    tileK c i arg2 harg2 arg3 harg3 arg4 harg4 arg5 harg5 arg6 harg6 arg7 harg7 arg8 harg8 x0 x1 x2 x3 x4 x5 (ix2 d (col g r)) = attnOut q qs k ks v vs ⟨(i 1).val, lt256 i⟩ n r d := by
  have hi := lt256 i
  have hh := lt16 i
  have hg : (⟨n.val / 4, by omega⟩ : Fin 16) = ⟨(i 0).val, hh⟩ := Fin.ext (by dsimp only; omega)
  have hmod : ∀ (j : ℕ) (c : Fin 128), j < 256 → Fin.ofNat 32768 (128 * (Fin.ofNat 256 j).val + c.val) = Fin.ofNat 32768 (128 * j + c.val) := by
    intro j c hj
    rw [show (Fin.ofNat 256 j).val = j from Nat.mod_eq_of_lt hj]
  have hmod' : ∀ (j : ℕ) (c : Fin 128), Fin.ofNat 32768 (128 * (Fin.ofNat 256 j).val + c.val) = Fin.ofNat 32768 (128 * j + c.val) := by
    intro j c
    apply Fin.ext
    show (128 * (j % 256) + c.val) % 32768 = (128 * j + c.val) % 32768
    omega
  obtain ⟨hm, hl, ha⟩ := st1_val c i arg2 harg2 arg3 harg3 arg4 harg4 arg5 harg5 arg6 harg6 arg7 harg7 arg8 harg8 (View.readAt (Elt Ideal) arg4.view (Rect.unit (s := S4x1x128x128) ![0, 0, 0, 0] S4x1x128x128.size inb_S4x1x128x128_S4x1x128x128_0_0_0_0).toLoadRect (harg4.unread x2)) (View.readAt (Elt Ideal) arg5.view (Rect.unit (s := S1x1x512) ![0, 0, 0] S1x1x512.size inb_S1x1x512_S1x1x512_0_0_0).toLoadRect (harg5.unread x3)) x0 x1 x4 x5 g r d
    (fun j c => score (q ⟨128 * (i 1).val + r.val, by omega⟩ n) (k (Fin.ofNat 32768 (128 * j + c.val)) ⟨(i 0).val, hh⟩)
      (qs ⟨(i 1).val, hi⟩ n * ks (Fin.ofNat 256 j) ⟨(i 0).val, hh⟩) (i 1).val j r c)
    (fun j c => by
      rw [qs_read, e3, e0]
      refine congrArg₂ (fun Q K => score Q K _ _ _ r c) (funext fun x => ?_) (funext fun x => ?_)
      · rw [q_read]; exact e2 x _
      · rw [e4, hmod'])
    (k0_t1_loop i).trips le_rfl
  unfold tileK
  dsimp only at hm hl ha ⊢
  rw [outK_apply, hm, hl, ha, pay55_score _ _ _ _ (i 1).val g r, qs_read, e3,
    scale_read harg2 x0 _ _ (i 1).val hi (off6_val i), scale_read harg3 x1 _ _ (i 1).val hi (off6_val i), e0, e1]
  have hk : ∀ c x, (View.readAt (Elt Ideal) arg6.view (Rect.unit (s := S1x256x128x128) (k0_off5 i) S1x1x128x128.size (k0_off5_inb i)).toLoadRect (harg6.unread x4)) (ix4 0 0 c x) = k (Fin.ofNat 32768 (128 * (i 1).val + c.val)) ⟨(i 0).val, hh⟩ x := by
    intro c x
    rw [tile_read harg6 x4 _ _ (i 1).val hi (off5_val i), e4, hmod']
  have hv : ∀ c, (View.readAt (Elt Ideal) arg7.view (Rect.unit (s := S1x256x128x128) (k0_off5 i) S1x1x128x128.size (k0_off5_inb i)).toLoadRect (harg7.unread x5)) (ix4 0 0 d c) = v (Fin.ofNat 32768 (128 * (i 1).val + c.val)) ⟨(i 0).val, hh⟩ d := by
    intro c
    rw [tile_read harg7 x5 _ _ (i 1).val hi (off5_val i), e5, hmod']
  have hq : ∀ x, (View.readAt (Elt Ideal) arg4.view (Rect.unit (s := S4x1x128x128) ![0, 0, 0, 0] S4x1x128x128.size inb_S4x1x128x128_S4x1x128x128_0_0_0_0).toLoadRect (harg4.unread x2)) (ix4 g 0 r x) = q ⟨128 * (i 1).val + r.val, by omega⟩ n x := by
    intro x
    rw [q_read]; exact e2 x _
  simp only [hk, hv, hq, e5, e1, hmod']
  rw [trips1 i]
  unfold attnOut
  rw [hg]
  rfl

end Cert.KernelIdeal.Hand
-- ==== Proof.KernelValue.lean ====
/-
  The kernel's result on the extended reals: the attention of `Spec.lean`, as a function of the operands.
-/
module

public import proofs.«01_k».proof.Proof.KernelTrip
public import Idealize.ShloMosaic.Lib.Pipeline.Covers

@[expose] public section

set_option maxRecDepth 16384
set_option maxHeartbeats 1000000

noncomputable section

namespace Cert.KernelIdeal.Hand

open Cert.KernelIdeal Cert.KernelIdeal.Gen Cert.Attn
open Idealize.ShloMosaic Idealize.ShloMosaic.TcCoe Idealize.SL.Sem

/-! ## Where the blocks lie -/

theorem w0 (i : grid0.Coords) : (BitVec.ofNat 32 (i 0).val).toNat = (i 0).val := by
  have := lt16 i
  rw [BitVec.toNat_ofNat]
  exact Nat.mod_eq_of_lt (by omega)
theorem w1 (i : grid0.Coords) : (BitVec.ofNat 32 (i 1).val).toNat = (i 1).val := by
  have := lt256 i
  rw [BitVec.toNat_ofNat]
  exact Nat.mod_eq_of_lt (by omega)

theorem idx0 (t : Fin cfg0.N) : win0_0.index t = ![(grid0.coords t 0).val, 0, 0] := by
  funext a; fin_cases a
  · exact w0 _
  · rfl
  · rfl
theorem idx1 (t : Fin cfg0.N) : win0_1.index t = ![(grid0.coords t 0).val, 0, 0] := by
  funext a; fin_cases a
  · exact w0 _
  · rfl
  · rfl
theorem idx2 (t : Fin cfg0.N) : win0_2.index t = ![(grid0.coords t 0).val, (grid0.coords t 1).val, 0, 0] := by
  funext a; fin_cases a
  · exact w0 _
  · exact w1 _
  · rfl
  · rfl
theorem idx3 (t : Fin cfg0.N) : win0_3.index t = ![(grid0.coords t 1).val, 0, (grid0.coords t 0).val] := by
  funext a; fin_cases a
  · exact w1 _
  · rfl
  · exact w0 _
theorem idx4 (t : Fin cfg0.N) : win0_4.index t = ![(grid0.coords t 0).val, 0, 0, 0] := by
  funext a; fin_cases a
  · exact w0 _
  · rfl
  · rfl
  · rfl
theorem idx5 (t : Fin cfg0.N) : win0_5.index t = ![(grid0.coords t 0).val, 0, 0, 0] := by
  funext a; fin_cases a
  · exact w0 _
  · rfl
  · rfl
  · rfl
theorem idx6 (t : Fin cfg0.N) : win0_6.index t = ![(grid0.coords t 1).val, (grid0.coords t 0).val] := by
  funext a; fin_cases a
  · exact w1 _
  · exact w0 _

/-! ## The arrays that the windows read -/

variable (m : (ℓ : Loc nD τ sig) → Buf (Elt Ideal) ℓ) (ρ : Dev nD → PrngReg)

theorem V12_val (c : Dev nD) (h : Fin 16) (b : Fin 256) : V m c main_v12 (ix3 h 0 b) = m ((c : Thread nD τ).loc main_arg3) (ix3 0 b h) := by
  entry_read
  pointwise
theorem V15_val (c : Dev nD) (h : Fin 16) (b : Fin 256) : V m c main_v15 (ix3 h 0 b) = m ((c : Thread nD τ).loc main_arg5) (ix3 0 b h) := by
  entry_read
  pointwise
theorem V1_val (c : Dev nD) (n : Fin 64) (b : Fin 256) (r x : Fin 128) (h) :
    V m c main_v1 (ix4 n b r x) = m ((c : Thread nD τ).loc main_arg0) (ix4 0 ⟨128 * b.val + r.val, h⟩ n x) := by
  entry_read
  pointwise
  have e : ∀ p, (⟨b.val * 128 + r.val, p⟩ : Fin 32768) = ⟨128 * b.val + r.val, h⟩ := fun p => Fin.ext (by dsimp only; omega)
  rw [e]
theorem V3_val (c : Dev nD) (n : Fin 16) (b : Fin 256) (r x : Fin 128) (h) :
    V m c main_v3 (ix4 n b r x) = m ((c : Thread nD τ).loc main_arg2) (ix4 0 ⟨128 * b.val + r.val, h⟩ n x) := by
  entry_read
  pointwise
  have e : ∀ p, (⟨b.val * 128 + r.val, p⟩ : Fin 32768) = ⟨128 * b.val + r.val, h⟩ := fun p => Fin.ext (by dsimp only; omega)
  rw [e]
theorem V5_val (c : Dev nD) (n : Fin 16) (b : Fin 256) (r x : Fin 128) (h) :
    V m c main_v5 (ix4 n b x r) = m ((c : Thread nD τ).loc main_arg4) (ix4 0 ⟨128 * b.val + r.val, h⟩ n x) := by
  entry_read
  pointwise
  have e : ∀ p, (⟨b.val * 128 + r.val, p⟩ : Fin 32768) = ⟨128 * b.val + r.val, h⟩ := fun p => Fin.ext (by dsimp only; omega)
  rw [e]
theorem V9_val (c : Dev nD) (b : Fin 256) (n : Fin 64) (r : Fin 128) (h) :
    V m c main_v9 (ix3 b 0 ⟨128 * n.val + r.val, h⟩) = m ((c : Thread nD τ).loc main_arg1) (ix3 0 b n) := by
  entry_read
  pointwise

theorem blk0 (c : Dev nD) (t : Fin cfg0.N) (b : Fin 256) : iblk m c 0 t (ix3 0 0 b) = V m c main_v12 (ix3 ⟨(grid0.coords t 0).val, lt16 _⟩ 0 b) := by
  have e := idx0 t
  blk_ext [iblk, e]
theorem blk1 (c : Dev nD) (t : Fin cfg0.N) (b : Fin 256) : iblk m c 1 t (ix3 0 0 b) = V m c main_v15 (ix3 ⟨(grid0.coords t 0).val, lt16 _⟩ 0 b) := by
  have e := idx1 t
  blk_ext [iblk, e]
theorem blk2 (c : Dev nD) (t : Fin cfg0.N) (g : Fin 4) (r x : Fin 128) (n : Fin 64) (hn : n.val = 4 * (grid0.coords t 0).val + g.val) :
    iblk m c 2 t (ix4 g 0 r x) = V m c main_v1 (ix4 n ⟨(grid0.coords t 1).val, lt256 _⟩ r x) := by
  have e := idx2 t
  blk_ext [iblk, e]
theorem blk3 (c : Dev nD) (t : Fin cfg0.N) (g : Fin 4) (r : Fin 128) (n : Fin 64) (hn : n.val = 4 * (grid0.coords t 0).val + g.val) (h) :
    iblk m c 3 t (ix3 0 0 (col g r)) = V m c main_v9 (ix3 ⟨(grid0.coords t 1).val, lt256 _⟩ 0 ⟨128 * n.val + r.val, h⟩) := by
  have e := idx3 t
  unfold col
  blk_ext [iblk, e]
theorem blk4 (c : Dev nD) (t : Fin cfg0.N) (j : Fin 256) (a x : Fin 128) :
    iblk m c 4 t (ix4 0 j a x) = V m c main_v3 (ix4 ⟨(grid0.coords t 0).val, lt16 _⟩ j a x) := by
  have e := idx4 t
  blk_ext [iblk, e]
theorem blk5 (c : Dev nD) (t : Fin cfg0.N) (j : Fin 256) (a x : Fin 128) :
    iblk m c 5 t (ix4 0 j a x) = V m c main_v5 (ix4 ⟨(grid0.coords t 0).val, lt16 _⟩ j a x) := by
  have e := idx5 t
  blk_ext [iblk, e]

/-! ## The result -/

/-- The attention of the arguments. -/
def G (c : Dev nD) : Vec Ideal S32768x8192 .bf16 :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- An entry of the block that grid point `t` stores. -/
theorem outs_val (c : Dev nD) (t : Fin cfg0.N) (g : Fin 4) (r d : Fin 128) (y : S32768x8192.Idx)
    (h0 : (y 0).val = 128 * (grid0.coords t 1).val + r.val) (h1 : (y 1).val = 512 * (grid0.coords t 0).val + (128 * g.val + d.val)) :
    outsAt0 (F := Ideal) m c t (ix2 r (col g d)) = G m c y := by
  have hi := lt256 (grid0.coords t)
  have hh := lt16 (grid0.coords t)
  unfold outsAt0 G result
  refine (out_val ..).trans ?_
  refine (tileK_val c (grid0.coords t) _ _ _ _ _ _ _ _ _ _ _ _ _ _ _ _ _ _ _ _ g r d
    ⟨4 * (grid0.coords t 0).val + g.val, by omega⟩ rfl
    (fun s n d => m ((c : Thread nD τ).loc main_arg0) (ix4 0 s n d)) (fun b n => m ((c : Thread nD τ).loc main_arg1) (ix3 0 b n))
    (fun s n d => m ((c : Thread nD τ).loc main_arg2) (ix4 0 s n d)) (fun b n => m ((c : Thread nD τ).loc main_arg3) (ix3 0 b n))
    (fun s n d => m ((c : Thread nD τ).loc main_arg4) (ix4 0 s n d)) (fun b n => m ((c : Thread nD τ).loc main_arg5) (ix3 0 b n))
    (fun b => (blk0 m c t b).trans (V12_val m c _ b)) (fun b => (blk1 m c t b).trans (V15_val m c _ b))
    (fun x h => (blk2 m c t g r x _ rfl).trans (V1_val m c _ _ r x h))
    ((blk3 m c t g r _ rfl (by dsimp only; omega)).trans (V9_val m c _ _ r _))
    (fun j a x => ((blk4 m c t j a x).trans (V3_val m c _ j a x (by omega))).trans ?_)
    (fun j a x => ((blk5 m c t j x a).trans (V5_val m c _ j a x (by omega))).trans ?_)).trans ?_
  · exact congrArg (fun s => m ((c : Thread nD τ).loc main_arg2) (ix4 0 s _ x)) (Fin.ext (Nat.mod_eq_of_lt (by omega)).symm)
  · exact congrArg (fun s => m ((c : Thread nD τ).loc main_arg4) (ix4 0 s _ x)) (Fin.ext (Nat.mod_eq_of_lt (by omega)).symm)
  · have a0 : ∀ p, (⟨(y 0).val / 128, p⟩ : Fin 256) = ⟨(grid0.coords t 1).val, hi⟩ := fun p => Fin.ext (by dsimp only; omega)
    have a1 : ∀ p, (⟨(y 1).val / 128, p⟩ : Fin 64) = ⟨4 * (grid0.coords t 0).val + g.val, by omega⟩ := fun p => Fin.ext (by dsimp only; omega)
    have a2 : ∀ p, (⟨(y 0).val % 128, p⟩ : Fin 128) = r := fun p => Fin.ext (by dsimp only; omega)
    have a3 : ∀ p, (⟨(y 1).val % 128, p⟩ : Fin 128) = d := fun p => Fin.ext (by dsimp only; omega)
    rw [a0, a1, a2, a3]

theorem covers6 : (cfg0.win 6).Covers :=
  win0_6.covers_of_indexMap_surj rfl (by decide) fun β => by
    have hb0 : (β 0).val < 256 := (β 0).isLt
    have hb1 : (β 1).val < 16 := (β 1).isLt
    refine ⟨fun a => match a with | 0 => ⟨(β 1).val, hb1⟩ | 1 => ⟨(β 0).val, hb0⟩, fun a => ?_⟩
    fin_cases a
    · show (BitVec.ofNat 32 (β 0).val).toNat = (β 0).val
      rw [BitVec.toNat_ofNat]
      exact Nat.mod_eq_of_lt (by omega)
    · show (BitVec.ofNat 32 (β 1).val).toNat = (β 1).val
      rw [BitVec.toNat_ofNat]
      exact Nat.mod_eq_of_lt (by omega)

theorem final6 (c : Dev nD) : (dats m 0 c).arrAt 6 cfg0.N = G m c := by
  refine (dats m 0 c).arrAt_eq_of_covers 6 _ covers6 fun t hf y => ?_
  have e := idx6 t
  blk_simp
  rw [after0_6]
  obtain ⟨r, q, rfl⟩ : ∃ (r : Fin 128) (q : Fin 512), y = ix2 r q := ⟨y 0, y 1, by funext z; fin_cases z <;> rfl⟩
  have hq : q = col ⟨q.val / 128, by omega⟩ ⟨q.val % 128, by omega⟩ := Fin.ext (by unfold col; dsimp only; omega)
  have e0 : ∀ (q : Fin 512), ((((cfg0.win 6).blk t).view.emb (ix2 r q)) 0 : ℕ) = 128 * (grid0.coords t 1).val + r.val := by
    intro q
    blk_simp [e]
    omega
  have e1 : ∀ (q : Fin 512), ((((cfg0.win 6).blk t).view.emb (ix2 r q)) 1 : ℕ) = 512 * (grid0.coords t 0).val + q.val := by
    intro q
    blk_simp [e]
    omega
  rw [hq]
  exact outs_val m c t _ r _ _ (e0 _) (e1 _)

/-- The run: the result array holds the attention of the arguments, and the arguments are as launched. -/
theorem runValue : θ_run defs (onTc (τ := τ) (main (F := Ideal))) ⟨m, fun _ => 0, ρ⟩ fun r => ∀ c : Dev nD,
      r.2.mem ((c : Thread nD τ).loc main_v16) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final6 m c), (h c).2⟩) (Cert.KernelIdeal.Value.run_blocks m ρ)

end Cert.KernelIdeal.Hand

end
-- ==== Proof.QuantPieces.lean ====
/-
  What one grid point of the quantise call leaves in the blocks of its six results: for each head the codes of that head's
  128 by 128 tile, and its scale in 128 lanes.
-/
module

public import proofs.«01_k».proof.Proof.Gen.QuantizeIdeal.Frame
public import Idealize.ShloMosaic.Lib.Pipeline.Value

@[expose] public section

set_option maxRecDepth 16384
set_option maxHeartbeats 1000000

noncomputable section

namespace Cert.QuantizeIdeal.Hand

open Cert.QuantizeIdeal Cert.QuantizeIdeal.Gen
open Idealize.ShloMosaic

variable {F : FTy → Type} [FloatOps F]

/-- The codes of a tile. -/
abbrev tileCodes (t : Vec F S128x128 .bf16) : FVec F S128x128 .fp8e4m3 := k0_pay6 (k0_pay4 t)

/-- The scale of a tile, in 128 lanes. -/
abbrev tileScale (t : Vec F S128x128 .bf16) : FVec F S1x1x128 .f32 := k0_pay8 (k0_pay3 t) k0_pay5

/-- Columns `o` to `o + 127` of a block that is `n` wide (those beyond its width repeat its columns and are not read). -/
def tileOf {n : ℕ} (x : Vec F ⟨2, ![128, n]⟩ .bf16) (hn : 0 < n) (o : ℕ) : Vec F S128x128 .bf16 :=
  fun j => x (fun a => match a with | ⟨0, _⟩ => ⟨(j 0).val, (j 0).isLt⟩ | ⟨1, _⟩ => ⟨(o + (j 1).val) % n, Nat.mod_lt _ hn⟩)

/-- The codes of a block, one tile of 128 columns after the other. -/
def blockCodes {n : ℕ} (x : Vec F ⟨2, ![128, n]⟩ .bf16) (hn : 0 < n) : Vec F ⟨2, ![128, n]⟩ .fp8e4m3 :=
  fun y => tileCodes (tileOf x hn ((y 1).val / 128 * 128))
    (fun a => match a with | ⟨0, _⟩ => ⟨(y 0).val, (y 0).isLt⟩ | ⟨1, _⟩ => ⟨(y 1).val % 128, Nat.mod_lt _ (by decide)⟩)

/-- The scales of a block's tiles, each in 128 lanes. -/
def blockScales {n : ℕ} (x : Vec F ⟨2, ![128, n]⟩ .bf16) (hn : 0 < n) : Vec F ⟨3, ![1, 1, n]⟩ .f32 :=
  fun y => tileScale (tileOf x hn ((y 2).val / 128 * 128))
    (fun a => match a with | ⟨0, _⟩ => ⟨0, Nat.one_pos⟩ | ⟨1, _⟩ => ⟨0, Nat.one_pos⟩ | ⟨2, _⟩ => ⟨(y 2).val % 128, Nat.mod_lt _ (by decide)⟩)

/-- A tile of 128 columns lies in the block. -/
theorem inb2 {n o : ℕ} (hb : o + 128 ≤ n) : ∀ a, (![0, o] : Fin 2 → ℕ) a + S128x128.size a ≤ (⟨2, ![128, n]⟩ : Shape).size a
  | ⟨0, _⟩ => Nat.le_refl 128
  | ⟨1, _⟩ => hb

/-- 128 lanes lie in the block of scales. -/
theorem inb3 {n o : ℕ} (hb : o + 128 ≤ n) : ∀ a, (![0, 0, o] : Fin 3 → ℕ) a + S1x1x128.size a ≤ (⟨3, ![1, 1, n]⟩ : Shape).size a
  | ⟨0, _⟩ => Nat.le_refl 1
  | ⟨1, _⟩ => Nat.le_refl 1
  | ⟨2, _⟩ => hb

/-- The load of a tile, read off the block. -/
theorem ld_tile {n : ℕ} (x : Vec F ⟨2, ![128, n]⟩ .bf16) (hn : 0 < n) (o : ℕ) (hb : o + 128 ≤ n) :
    View.ld x (Rect.unit (s := ⟨2, ![128, n]⟩) ![0, o] S128x128.size (inb2 hb)) = tileOf x hn o := by
  funext j
  have hj : (j 1).val < 128 := (j 1).isLt
  refine congrArg x (funext fun a => Fin.ext ?_)
  match a with
  | ⟨0, _⟩ => show 0 + 1 * (j 0).val = (j 0).val; omega
  | ⟨1, _⟩ => show o + 1 * (j 1).val = (o + (j 1).val) % n; rw [Nat.mod_eq_of_lt (by omega)]; omega

/-- A store of one tile's codes is its part of `blockCodes`. -/
theorem piece_codes {n : ℕ} (x : Vec F ⟨2, ![128, n]⟩ .bf16) (hn : 0 < n) (o : ℕ) (hb : o + 128 ≤ n) (ho : o % 128 = 0)
    (p : FVec F S128x128 .fp8e4m3) (hp : p = tileCodes (View.ld x (Rect.unit (s := ⟨2, ![128, n]⟩) ![0, o] S128x128.size (inb2 hb)))) (j : S128x128.Idx) :
    p j = blockCodes x hn ((Rect.unit (s := ⟨2, ![128, n]⟩) ![0, o] S128x128.size (inb2 hb)).idx j) := by
  have hj : (j 1).val < 128 := (j 1).isLt
  rw [hp, ld_tile x hn o hb]
  have e : (o + 1 * (j 1).val) / 128 * 128 = o := by omega
  show _ = tileCodes (tileOf x hn ((o + 1 * (j 1).val) / 128 * 128)) _
  rw [e]
  refine congrArg _ (funext fun a => Fin.ext ?_)
  match a with
  | ⟨0, _⟩ => show (j 0).val = 0 + 1 * (j 0).val; omega
  | ⟨1, _⟩ => show (j 1).val = (o + 1 * (j 1).val) % 128; omega

/-- A store of one tile's scale is its part of `blockScales`. -/
theorem piece_scales {n : ℕ} (x : Vec F ⟨2, ![128, n]⟩ .bf16) (hn : 0 < n) (o : ℕ) (hb : o + 128 ≤ n) (ho : o % 128 = 0)
    (p : FVec F S1x1x128 .f32) (hp : p = tileScale (View.ld x (Rect.unit (s := ⟨2, ![128, n]⟩) ![0, o] S128x128.size (inb2 hb)))) (j : S1x1x128.Idx) :
    p j = blockScales x hn ((Rect.unit (s := ⟨3, ![1, 1, n]⟩) ![0, 0, o] S1x1x128.size (inb3 hb)).idx j) := by
  have hj : (j 2).val < 128 := (j 2).isLt
  have h0 : (j 0).val < 1 := (j 0).isLt
  have h1 : (j 1).val < 1 := (j 1).isLt
  rw [hp, ld_tile x hn o hb]
  have e : (o + 1 * (j 2).val) / 128 * 128 = o := by omega
  show _ = tileScale (tileOf x hn ((o + 1 * (j 2).val) / 128 * 128)) _
  rw [e]
  refine congrArg _ (funext fun a => Fin.ext ?_)
  match a with
  | ⟨0, _⟩ => show (j 0).val = 0; omega
  | ⟨1, _⟩ => show (j 1).val = 0; omega
  | ⟨2, _⟩ => show (j 2).val = (o + 1 * (j 2).val) % 128; omega

variable (x0 : Vec F S128x8192 .bf16) (x1 : Vec F S128x2048 .bf16) (x2 : Vec F S128x2048 .bf16)

/-! ## The blocks of the six results -/

/-- Codes of the queries. -/
theorem out3_eq : out0_3 x0 x1 x2 = blockCodes x0 (by decide) := by
  funext y
  unfold out0_3
  refine View.canon_apply_of_pieces (blockCodes x0 (by decide)) _ ?_ y (cover0_3 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  repeat
    refine List.forall_mem_cons.mpr ⟨fun j => ?_, ?_⟩
    · refine piece_codes x0 _ _ ?_ ?_ _ ?_ j
      · omega
      · omega
      · rfl
  exact fun pc h => absurd h List.not_mem_nil

/-- Codes of the keys. -/
theorem out4_eq : out0_4 x0 x1 x2 = blockCodes x1 (by decide) := by
  funext y
  unfold out0_4
  refine View.canon_apply_of_pieces (blockCodes x1 (by decide)) _ ?_ y (cover0_4 _ _ _ _ _ _ _ _ _ _ _ _ _ _ _ _ y)
  repeat
    refine List.forall_mem_cons.mpr ⟨fun j => ?_, ?_⟩
    · refine piece_codes x1 _ _ ?_ ?_ _ ?_ j
      · omega
      · omega
      · rfl
  exact fun pc h => absurd h List.not_mem_nil

/-- Codes of the values. -/
theorem out5_eq : out0_5 x0 x1 x2 = blockCodes x2 (by decide) := by
  funext y
  unfold out0_5
  refine View.canon_apply_of_pieces (blockCodes x2 (by decide)) _ ?_ y (cover0_5 _ _ _ _ _ _ _ _ _ _ _ _ _ _ _ _ y)
  repeat
    refine List.forall_mem_cons.mpr ⟨fun j => ?_, ?_⟩
    · refine piece_codes x2 _ _ ?_ ?_ _ ?_ j
      · omega
      · omega
      · rfl
  exact fun pc h => absurd h List.not_mem_nil

/-- Scales of the queries, in lanes. -/
theorem out9_eq : out0_9 x0 x1 x2 = blockScales x0 (by decide) := by
  funext y
  unfold out0_9
  refine View.canon_apply_of_pieces (blockScales x0 (by decide)) _ ?_ y (cover0_9 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  repeat
    refine List.forall_mem_cons.mpr ⟨fun j => ?_, ?_⟩
    · refine piece_scales x0 _ _ ?_ ?_ _ ?_ j
      · omega
      · omega
      · rfl
  exact fun pc h => absurd h List.not_mem_nil

/-- Scales of the keys, in lanes. -/
theorem out10_eq : out0_10 x0 x1 x2 = blockScales x1 (by decide) := by
  funext y
  unfold out0_10
  refine View.canon_apply_of_pieces (blockScales x1 (by decide)) _ ?_ y (cover0_10 _ _ _ _ _ _ _ _ _ _ _ _ _ _ _ _ y)
  repeat
    refine List.forall_mem_cons.mpr ⟨fun j => ?_, ?_⟩
    · refine piece_scales x1 _ _ ?_ ?_ _ ?_ j
      · omega
      · omega
      · rfl
  exact fun pc h => absurd h List.not_mem_nil

/-- Scales of the values, in lanes. -/
theorem out11_eq : out0_11 x0 x1 x2 = blockScales x2 (by decide) := by
  funext y
  unfold out0_11
  refine View.canon_apply_of_pieces (blockScales x2 (by decide)) _ ?_ y (cover0_11 _ _ _ _ _ _ _ _ _ _ _ _ _ _ _ _ y)
  repeat
    refine List.forall_mem_cons.mpr ⟨fun j => ?_, ?_⟩
    · refine piece_scales x2 _ _ ?_ ?_ _ ?_ j
      · omega
      · omega
      · rfl
  exact fun pc h => absurd h List.not_mem_nil

end Cert.QuantizeIdeal.Hand

end
-- ==== Proof.QuantScale.lean ====
/-
  The power-of-two scale of a tile: the words of the kernel (a scale and its inverse made of their bits) and the powers by
  `exp2` are the same numbers, for every tile of finite entries.
-/
module

public import proofs.«01_k».proof.Proof.KernelScale
public import Idealize.ShloMosaic.Lib.Pointwise

@[expose] public section

set_option maxRecDepth 16384

noncomputable section

namespace Cert.Attn

open Idealize.ShloMosaic

/-- The absolute value. -/
def eabs (x : EReal) : EReal := max x (-x)

/-- The absolute value, as a maximum. -/
theorem absf_eq (x : EReal) : FloatOps.absf (F := Ideal) (φ := .f32) x = eabs x := rfl

/-- The exponent by `exp2`: zero below the least normal number, else the count of the powers that are at most `y`, less 126. -/
def eB (y : EReal) : BitVec 32 :=
  Scalar.select (BitVec.ofBool (decide (y < Ideal.ofBits .f32 0x00800000#32))) (0#32)
    (IntOp.subi (Finset.fold IntOp.addi (0#32)
      (fun x : Fin 254 => BitVec.setWidth 32 (BitVec.ofBool (decide (Ideal.exp2 ((((IntOp.subi (BitVec.ofNat 32 x.val) 126#32).toInt : ℝ)) : EReal) ≤ y))))
      Finset.univ) 126#32)

/-- A count over an interval of `Fin K`, moved to start at zero. -/
theorem card_shift (K lo n : ℕ) (hK : lo + n ≤ K) (P : Fin K → Prop) [DecidablePred P] (Q : ℕ → Prop) [DecidablePred Q]
    (hP : ∀ j, P j ↔ lo ≤ j.val ∧ j.val - lo < n ∧ Q (j.val - lo)) :
    (Finset.univ.filter P).card = ((Finset.range n).filter Q).card := by
  refine (Finset.card_bij (fun (i : ℕ) (hi : i ∈ (Finset.range n).filter Q) =>
    (⟨lo + i, by have := Finset.mem_range.mp (Finset.mem_filter.mp hi).1; omega⟩ : Fin K)) ?_ ?_ ?_).symm
  · intro i hi
    have h := Finset.mem_filter.mp hi
    have h1 := Finset.mem_range.mp h.1
    refine Finset.mem_filter.mpr ⟨Finset.mem_univ _, (hP _).mpr ⟨Nat.le_add_right _ _, ?_, ?_⟩⟩
    · dsimp only; omega
    · dsimp only; rw [Nat.add_sub_cancel_left]; exact h.2
  · intro i _ j _ h
    have := congrArg Fin.val h
    dsimp only at this
    omega
  · intro j hj
    obtain ⟨h1, h2, h3⟩ := (hP j).mp (Finset.mem_filter.mp hj).2
    exact ⟨j.val - lo, Finset.mem_filter.mpr ⟨Finset.mem_range.mpr h2, h3⟩, Fin.ext (by dsimp only; omega)⟩

/-- The words of scale and inverse, for every count below 247. -/
theorem scale_word' : ∀ N : Fin 247, 0 < N.val →
    IntOp.shli ArithUnit.vector (IntOp.addi (eWord (BitVec.ofNat 32 N.val)) 127#32) 23#32 = BitVec.ofNat 32 (N.val + 1) <<< 23
    ∧ IntOp.shli ArithUnit.vector (IntOp.addi (IntOp.subi (0#32) (eWord (BitVec.ofNat 32 N.val))) 127#32) 23#32 = BitVec.ofNat 32 (253 - N.val) <<< 23 := by
  decide +kernel

/-- The count less 126, as an integer. -/
theorem sub126 : ∀ N : Fin 254, (IntOp.subi (BitVec.ofNat 32 N.val) 126#32).toInt = (N.val : ℤ) - 126 := by decide +kernel

/-- Two to an integer. -/
theorem exp2_int (t : ℤ) : Ideal.exp2 (((t : ℤ) : ℝ) : EReal) = (((2 : ℝ) ^ t : ℝ) : EReal) := by
  rw [Ideal.exp2_coe]; exact congrArg _ (Real.rpow_intCast 2 t)

/-- Two to the negative of an integer. -/
theorem exp2_neg_int (t : ℤ) : Ideal.exp2 (0 - (((t : ℤ) : ℝ) : EReal)) = (((2 : ℝ) ^ (-t) : ℝ) : EReal) := by
  rw [zero_sub, ← EReal.coe_neg, ← Int.cast_neg, exp2_int]

/-- The least normal number. -/
theorem ofBits_tiny : Ideal.ofBits .f32 0x00800000#32 = (((2 : ℝ) ^ (-126 : ℤ) : ℝ) : EReal) := by
  have h := ofBits_pow2 ⟨1, by omega⟩ (by norm_num)
  rw [show (0x00800000#32) = BitVec.ofNat 32 1 <<< 23 by decide]
  refine h.trans (congrArg _ (congrArg _ ?_))
  norm_num

/-- The two scales and the two inverses agree. -/
theorem scales_agree (y : ℝ) (hy : y < (2 : ℝ) ^ (120 : ℤ)) :
    kScale (eWord (cnt (y : EReal))) = Ideal.exp2 ((((eB (y : EReal)).toInt : ℤ) : ℝ) : EReal)
    ∧ kInv (eWord (cnt (y : EReal))) = Ideal.exp2 (0 - ((((eB (y : EReal)).toInt : ℤ) : ℝ) : EReal)) := by
  classical
  have hlt : ∀ i : ℕ, (2 : ℝ) ^ ((i : ℤ) - 126) ≤ y → i < 246 := by
    intro i hi
    by_contra hc
    have : (2 : ℝ) ^ (120 : ℤ) ≤ 2 ^ ((i : ℤ) - 126) := zpow_le_zpow_right₀ (by norm_num) (by omega)
    linarith
  have hk : cnt (y : EReal) = BitVec.ofNat 32 ((Finset.range 254).filter fun i : ℕ => (2 : ℝ) ^ ((i : ℤ) - 126) ≤ y).card := by
    unfold cnt cw
    rw [IndicatorCount.fold_addi_setWidth_eq_card]
    refine congrArg _ (card_shift 256 1 254 (by omega) _ _ fun j => ?_)
    rw [sgt_word, WordArith.andi_ofBool, WordArith.ofBool_eq_one_iff, Bool.and_eq_true, decide_eq_true_iff, decide_eq_true_iff, shl_word, and_comm]
    refine and_congr_right fun hj => ?_
    by_cases ht : j.val = 255
    · rw [ht, ofBits_pow2_top]
      exact iff_of_false (fun h => EReal.coe_ne_top _ (top_le_iff.mp h)) (fun h => by omega)
    · rw [ofBits_pow2 ⟨j.val, by omega⟩ hj, EReal.coe_le_coe_iff]
      have e : ((j.val : ℤ) - 127) = (((j.val - 1 : ℕ) : ℤ) - 126) := by omega
      dsimp only
      rw [e]
      exact ⟨fun h => ⟨by omega, h⟩, fun h => h.2⟩
  have hr : Finset.fold IntOp.addi (0#32)
      (fun x : Fin 254 => BitVec.setWidth 32 (BitVec.ofBool (decide (Ideal.exp2 ((((IntOp.subi (BitVec.ofNat 32 x.val) 126#32).toInt : ℝ)) : EReal) ≤ (y : EReal)))))
      Finset.univ = BitVec.ofNat 32 ((Finset.range 254).filter fun i : ℕ => (2 : ℝ) ^ ((i : ℤ) - 126) ≤ y).card := by
    rw [IndicatorCount.fold_addi_setWidth_eq_card]
    refine congrArg _ (card_shift 254 0 254 (by omega) _ _ fun j => ?_)
    rw [WordArith.ofBool_eq_one_iff, decide_eq_true_iff, sub126, exp2_int, EReal.coe_le_coe_iff]
    exact ⟨fun h => ⟨by omega, by omega, h⟩, fun h => h.2.2⟩
  unfold eB
  rw [hk, hr, ofBits_tiny]
  simp only [EReal.coe_lt_coe_iff]
  set N := ((Finset.range 254).filter fun i : ℕ => (2 : ℝ) ^ ((i : ℤ) - 126) ≤ y).card with hN
  have hN1 : N ≤ 246 := by
    have : ((Finset.range 254).filter fun i : ℕ => (2 : ℝ) ^ ((i : ℤ) - 126) ≤ y) ⊆ Finset.range 246 := fun i hi =>
      Finset.mem_range.mpr (hlt i (Finset.mem_filter.mp hi).2)
    exact (Finset.card_le_card this).trans_eq (Finset.card_range _)
  by_cases hs : y < (2 : ℝ) ^ (-126 : ℤ)
  · have h0 : N = 0 := by
      refine Finset.card_eq_zero.mpr (Finset.filter_eq_empty_iff.mpr fun i _ h => ?_)
      have : (2 : ℝ) ^ (-126 : ℤ) ≤ 2 ^ ((i : ℤ) - 126) := zpow_le_zpow_right₀ (by norm_num) (by omega)
      linarith
    have hsel : ∀ b : BitVec 32, Scalar.select (BitVec.ofBool (decide (y < (2 : ℝ) ^ (-126 : ℤ)))) (0#32) b = 0#32 := by
      intro b; rw [decide_eq_true hs]; rfl
    rw [hsel, h0]
    unfold kScale kInv
    rw [show BitVec.ofNat 32 0 = 0#32 from rfl, scale_word_zero.1, scale_word_zero.2, show (0#32).toInt = 0 from rfl, exp2_int, exp2_neg_int,
      ofBits_pow2 ⟨127, by omega⟩ (by norm_num)]
    exact ⟨congrArg _ (congrArg _ (by norm_num)), congrArg _ (congrArg _ (by norm_num))⟩
  · have hpos : 0 < N := by
      refine Finset.card_pos.mpr ⟨0, Finset.mem_filter.mpr ⟨Finset.mem_range.mpr (by omega), ?_⟩⟩
      exact (by simpa using hs)
    have hsel : ∀ b : BitVec 32, Scalar.select (BitVec.ofBool (decide (y < (2 : ℝ) ^ (-126 : ℤ)))) (0#32) b = b := by
      intro b; rw [decide_eq_false hs]; rfl
    rw [hsel, sub126 ⟨N, by omega⟩, exp2_int, exp2_neg_int]
    unfold kScale kInv
    rw [(scale_word' ⟨N, by omega⟩ hpos).1, (scale_word' ⟨N, by omega⟩ hpos).2]
    constructor
    · refine (ofBits_pow2 ⟨N + 1, by omega⟩ (Nat.succ_pos N)).trans (congrArg _ (congrArg _ ?_))
      push_cast; ring
    · refine (ofBits_pow2 ⟨253 - N, by omega⟩ (show 0 < 253 - N by omega)).trans (congrArg _ (congrArg _ ?_))
      push_cast [Nat.cast_sub (show N ≤ 253 by omega)]
      ring

/-! ## The codes and the scales of a matrix, tile by tile -/

/-- The greatest absolute value of tile `(b, h)` of a matrix (indices beyond its width are not read). -/
def tileMax {n : ℕ} (a : Vec Ideal ⟨2, ![32768, n]⟩ .bf16) (hn : 0 < n) (b h : ℕ) : EReal :=
  tmax fun d r => eabs (a (ix2 ⟨(128 * b + r.val) % 32768, Nat.mod_lt _ (by omega)⟩ ⟨(128 * h + d.val) % n, Nat.mod_lt _ hn⟩))

/-- The exponent of tile `(b, h)`. -/
def expAt {n : ℕ} (a : Vec Ideal ⟨2, ![32768, n]⟩ .bf16) (hn : 0 < n) (b h : ℕ) : BitVec 32 :=
  eWord (cnt (tileMax a hn b h * Ideal.ofBits .f32 991054117#32))

/-- The codes of a matrix. -/
def codesOf {n : ℕ} (a : Vec Ideal ⟨2, ![32768, n]⟩ .bf16) (hn : 0 < n) : Vec Ideal ⟨2, ![32768, n]⟩ .fp8e4m3 :=
  fun y => kCode (a y) (expAt a hn ((y 0).val / 128) ((y 1).val / 128))

/-- The scales of a matrix, a row for each 128 rows of it and a column for each 128 columns. -/
def scalesOf {n : ℕ} (H : ℕ) (a : Vec Ideal ⟨2, ![32768, n]⟩ .bf16) (hn : 0 < n) : Vec Ideal ⟨2, ![256, H]⟩ .f32 :=
  fun y => kScale (expAt a hn (y 0).val (y 1).val)

/-- The same scales, each in 128 lanes. -/
def lanesOf {n : ℕ} (a : Vec Ideal ⟨2, ![32768, n]⟩ .bf16) (hn : 0 < n) : Vec Ideal ⟨3, ![256, 1, n]⟩ .f32 :=
  fun y => kScale (expAt a hn (y 0).val ((y 2).val / 128))

end Cert.Attn

end
-- ==== Proof.QuantTile.lean ====
/-
  The codes and the scale of one tile, on the extended reals.
-/
module

public import proofs.«01_k».proof.Proof.QuantPieces
public import proofs.«01_k».proof.Proof.QuantScale
public import Idealize.ShloMosaic.Lib.Pointwise

@[expose] public section

set_option maxRecDepth 16384
set_option maxHeartbeats 1000000

noncomputable section

namespace Cert.QuantizeIdeal.Hand

open Cert.QuantizeIdeal Cert.QuantizeIdeal.Gen Cert.Attn
open Idealize.ShloMosaic

variable (t : Vec Ideal S128x128 .bf16)

/-- The exponent the kernel computes for a tile. -/
theorem expo_eq : k0_pay3 (F := Ideal) t (ix2 0 0) = eTile (fun d r => eabs (t (ix2 r d))) := by
  pointwise [k0_pay3, k0_pay2]
  rw [ofBits_negInf]
  simp only [eTile, eWord, cnt, tmax, ← absf_eq]
  unfold cw
  with_reducible rfl

/-- A code of a tile. -/
theorem tileCodes_apply (r d : Fin 128) :
    tileCodes (F := Ideal) t (ix2 r d) = kCode (t (ix2 r d)) (eTile (fun d r => eabs (t (ix2 r d)))) := by
  rw [← expo_eq]
  pointwise [tileCodes, k0_pay6, k0_pay4, k0_pay2]
  simp only [kCode, kInv]

/-- The scale of a tile, in any lane. -/
theorem tileScale_apply (d : Fin 128) :
    tileScale (F := Ideal) t (ix3 0 0 d) = kScale (eTile (fun d r => eabs (t (ix2 r d)))) := by
  rw [← expo_eq]
  pointwise [tileScale, k0_pay8, k0_pay5]
  simp only [kScale]

end Cert.QuantizeIdeal.Hand

end
-- ==== Proof.QuantValue.lean ====
/-
  The arrays that the quantise call leaves: for each operand its codes and, in 128 lanes each, the scales of its tiles.
-/
module

public import proofs.«01_k».proof.Proof.QuantTile
public import Idealize.ShloMosaic.Lib.Pipeline.Covers

@[expose] public section

set_option maxRecDepth 16384
set_option maxHeartbeats 1000000

noncomputable section

namespace Cert.QuantizeIdeal.Hand

open Cert.QuantizeIdeal Cert.QuantizeIdeal.Gen Cert.Attn
open Idealize.ShloMosaic Idealize.ShloMosaic.TcCoe Idealize.SL.Sem

/-! ## One block -/

section Block

variable {n : ℕ} (x : Vec Ideal ⟨2, ![128, n]⟩ .bf16) (hn : 0 < n) (a : Vec Ideal ⟨2, ![32768, n]⟩ .bf16) (b : ℕ) (hb : b < 256)
  (hx : ∀ (r : Fin 128) (q : Fin n), x (ix2 r q) = a (ix2 ⟨128 * b + r.val, by omega⟩ q))

include hx

/-- The exponent of a tile of the block is that of the matrix's tile. -/
theorem eTile_block (o h : ℕ) (ho : o = 128 * h) :
    eTile (fun d r => eabs (tileOf x hn o (ix2 r d))) = expAt a hn b h := by
  unfold eTile expAt tileMax
  refine congrArg (fun p => eWord (cnt (tmax p * Ideal.ofBits .f32 991054117#32))) (funext fun d => funext fun r => congrArg eabs ?_)
  have h1 : tileOf x hn o (ix2 r d) = x (ix2 r ⟨(o + d.val) % n, Nat.mod_lt _ hn⟩) :=
    congrArg x (funext fun z => by fin_cases z <;> rfl)
  rw [h1, hx]
  subst ho
  exact congrArg (fun s => a (ix2 s _)) (Fin.ext (Nat.mod_eq_of_lt (by omega)).symm)

/-- An entry of a block is the entry of the matrix. -/
theorem tile_val (y : (⟨2, ![128, n]⟩ : Shape).Idx) (z : (⟨2, ![32768, n]⟩ : Shape).Idx) (h0 : (z 0).val = 128 * b + (y 0).val)
    (h1 : (z 1).val = (y 1).val) :
    tileOf x hn ((y 1).val / 128 * 128) (ix2 ⟨(y 0).val, (y 0).isLt⟩ ⟨(y 1).val % 128, Nat.mod_lt _ (by decide)⟩) = a z := by
  have hy1 : (y 1).val < n := (y 1).isLt
  have h2 : tileOf x hn ((y 1).val / 128 * 128) (ix2 ⟨(y 0).val, (y 0).isLt⟩ ⟨(y 1).val % 128, Nat.mod_lt _ (by decide)⟩)
      = x (ix2 ⟨(y 0).val, (y 0).isLt⟩ ⟨((y 1).val / 128 * 128 + (y 1).val % 128) % n, Nat.mod_lt _ hn⟩) :=
    congrArg x (funext fun w => by fin_cases w <;> rfl)
  rw [h2, hx]
  refine congrArg a (funext fun w => Fin.ext ?_)
  match w with
  | ⟨0, _⟩ => exact h0.symm
  | ⟨1, _⟩ =>
    refine Eq.trans ?_ h1.symm
    refine Eq.trans ?_ (Nat.mod_eq_of_lt hy1)
    exact congrArg (· % n) (Nat.div_add_mod' _ _)

/-- The codes of a block are those of the matrix. -/
theorem blockCodes_val (y : (⟨2, ![128, n]⟩ : Shape).Idx) (z : (⟨2, ![32768, n]⟩ : Shape).Idx) (h0 : (z 0).val = 128 * b + (y 0).val)
    (h1 : (z 1).val = (y 1).val) : blockCodes (F := Ideal) x hn y = codesOf a hn z := by
  have hy0 : (y 0).val < 128 := (y 0).isLt
  have e : blockCodes (F := Ideal) x hn y = tileCodes (tileOf x hn ((y 1).val / 128 * 128)) (ix2 ⟨(y 0).val, (y 0).isLt⟩ ⟨(y 1).val % 128, Nat.mod_lt _ (by decide)⟩) :=
    congrArg (tileCodes (tileOf x hn ((y 1).val / 128 * 128))) (funext fun w => by fin_cases w <;> rfl)
  rw [e, tileCodes_apply, eTile_block x hn a b hb hx _ ((y 1).val / 128) (Nat.mul_comm _ _), tile_val x hn a b hb hx y z h0 h1]
  unfold codesOf
  rw [h1, show (z 0).val / 128 = b by omega]

/-- The scales of a block are those of the matrix. -/
theorem blockScales_val (y : (⟨3, ![1, 1, n]⟩ : Shape).Idx) (z : (⟨3, ![256, 1, n]⟩ : Shape).Idx) (h0 : (z 0).val = b)
    (h2 : (z 2).val = (y 2).val) : blockScales (F := Ideal) x hn y = lanesOf a hn z := by
  have e : blockScales (F := Ideal) x hn y = tileScale (tileOf x hn ((y 2).val / 128 * 128)) (ix3 0 0 ⟨(y 2).val % 128, Nat.mod_lt _ (by decide)⟩) :=
    congrArg (tileScale (tileOf x hn ((y 2).val / 128 * 128))) (funext fun w => by fin_cases w <;> rfl)
  rw [e, tileScale_apply, eTile_block x hn a b hb hx _ ((y 2).val / 128) (Nat.mul_comm _ _)]
  unfold lanesOf
  rw [h0, h2]

end Block

/-! ## Where the blocks lie -/

/-- There are 256 grid points. -/
theorem lt256 (i : grid0.Coords) : (i 0).val < 256 := (i 0).isLt

/-- A grid coordinate as a word. -/
theorem w0 (i : grid0.Coords) : (BitVec.ofNat 32 (i 0).val).toNat = (i 0).val := by
  have := lt256 i
  rw [BitVec.toNat_ofNat]
  exact Nat.mod_eq_of_lt (by omega)

/-- The block that a matrix window reads or writes at a grid point. -/
theorem idx2 (t : Fin cfg0.N) : win0_0.index t = ![(grid0.coords t 0).val, 0] ∧ win0_1.index t = ![(grid0.coords t 0).val, 0]
    ∧ win0_2.index t = ![(grid0.coords t 0).val, 0] ∧ win0_3.index t = ![(grid0.coords t 0).val, 0]
    ∧ win0_4.index t = ![(grid0.coords t 0).val, 0] ∧ win0_5.index t = ![(grid0.coords t 0).val, 0] := by
  have h : (![(BitVec.ofNat 32 (grid0.coords t 0).val).toNat, 0] : Fin 2 → ℕ) = ![(grid0.coords t 0).val, 0] := by rw [w0]
  exact ⟨h, h, h, h, h, h⟩

/-- The block that a window of scales writes at a grid point. -/
theorem idx3 (t : Fin cfg0.N) : win0_9.index t = ![(grid0.coords t 0).val, 0, 0] ∧ win0_10.index t = ![(grid0.coords t 0).val, 0, 0]
    ∧ win0_11.index t = ![(grid0.coords t 0).val, 0, 0] := by
  have h : (![(BitVec.ofNat 32 (grid0.coords t 0).val).toNat, 0, 0] : Fin 3 → ℕ) = ![(grid0.coords t 0).val, 0, 0] := by rw [w0]
  exact ⟨h, h, h⟩

variable (m : (ℓ : Loc nD τ sig) → Buf (Elt Ideal) ℓ) (ρ : Dev nD → PrngReg)

/-- The block of queries at a grid point. -/
theorem blk0 (c : Dev nD) (t : Fin cfg0.N) (r : Fin 128) (q : Fin 8192) :
    iblk m c 0 t (ix2 r q) = m ((c : Thread nD τ).loc main_arg0) (ix2 ⟨128 * (grid0.coords t 0).val + r.val, by have := lt256 (grid0.coords t); omega⟩ q) := by
  have e := (idx2 t).1
  rw [← V_main_arg0 m c]
  blk_ext [iblk, e]
/-- The block of keys at a grid point. -/
theorem blk1 (c : Dev nD) (t : Fin cfg0.N) (r : Fin 128) (q : Fin 2048) :
    iblk m c 1 t (ix2 r q) = m ((c : Thread nD τ).loc main_arg1) (ix2 ⟨128 * (grid0.coords t 0).val + r.val, by have := lt256 (grid0.coords t); omega⟩ q) := by
  have e := (idx2 t).2.1
  rw [← V_main_arg1 m c]
  blk_ext [iblk, e]
/-- The block of values at a grid point. -/
theorem blk2 (c : Dev nD) (t : Fin cfg0.N) (r : Fin 128) (q : Fin 2048) :
    iblk m c 2 t (ix2 r q) = m ((c : Thread nD τ).loc main_arg2) (ix2 ⟨128 * (grid0.coords t 0).val + r.val, by have := lt256 (grid0.coords t); omega⟩ q) := by
  have e := (idx2 t).2.2.1
  rw [← V_main_arg2 m c]
  blk_ext [iblk, e]

/-- Each block of a matrix has its grid point. -/
theorem reach2 (b0 b1 : ℕ) (h0 : b0 < 256) (h1 : b1 < 1) : ∃ i : grid0.Coords, ∀ a, cc0_transform_3 i a = (![b0, b1] : Fin 2 → ℕ) a := by
  refine ⟨fun a => match a with | 0 => ⟨b0, h0⟩, fun a => ?_⟩
  fin_cases a
  · show (BitVec.ofNat 32 b0).toNat = b0
    rw [BitVec.toNat_ofNat]
    exact Nat.mod_eq_of_lt (by omega)
  · show 0 = b1
    omega

/-- Each block of scales has its grid point. -/
theorem reach3 (b0 b1 b2 : ℕ) (h0 : b0 < 256) (h1 : b1 < 1) (h2 : b2 < 1) :
    ∃ i : grid0.Coords, ∀ a, cc0_transform_9 i a = (![b0, b1, b2] : Fin 3 → ℕ) a := by
  refine ⟨fun a => match a with | 0 => ⟨b0, h0⟩, fun a => ?_⟩
  fin_cases a
  · show (BitVec.ofNat 32 b0).toNat = b0
    rw [BitVec.toNat_ofNat]
    exact Nat.mod_eq_of_lt (by omega)
  · show 0 = b1
    omega
  · show 0 = b2
    omega

/-- The six windows cover their arrays. -/
theorem covers3 : (cfg0.win 3).Covers :=
  win0_3.covers_of_indexMap_surj rfl (by decide) fun β => by
    obtain ⟨i, h⟩ := reach2 _ _ (β 0).isLt (β 1).isLt
    exact ⟨i, fun a => by fin_cases a; exacts [h 0, h 1]⟩

theorem covers4 : (cfg0.win 4).Covers :=
  win0_4.covers_of_indexMap_surj rfl (by decide) fun β => by
    obtain ⟨i, h⟩ := reach2 _ _ (β 0).isLt (β 1).isLt
    exact ⟨i, fun a => by fin_cases a; exacts [h 0, h 1]⟩

theorem covers5 : (cfg0.win 5).Covers :=
  win0_5.covers_of_indexMap_surj rfl (by decide) fun β => by
    obtain ⟨i, h⟩ := reach2 _ _ (β 0).isLt (β 1).isLt
    exact ⟨i, fun a => by fin_cases a; exacts [h 0, h 1]⟩

theorem covers9 : (cfg0.win 9).Covers :=
  win0_9.covers_of_indexMap_surj rfl (by decide) fun β => by
    obtain ⟨i, h⟩ := reach3 _ _ _ (β 0).isLt (β 1).isLt (β 2).isLt
    exact ⟨i, fun a => by fin_cases a; exacts [h 0, h 1, h 2]⟩

theorem covers10 : (cfg0.win 10).Covers :=
  win0_10.covers_of_indexMap_surj rfl (by decide) fun β => by
    obtain ⟨i, h⟩ := reach3 _ _ _ (β 0).isLt (β 1).isLt (β 2).isLt
    exact ⟨i, fun a => by fin_cases a; exacts [h 0, h 1, h 2]⟩

theorem covers11 : (cfg0.win 11).Covers :=
  win0_11.covers_of_indexMap_surj rfl (by decide) fun β => by
    obtain ⟨i, h⟩ := reach3 _ _ _ (β 0).isLt (β 1).isLt (β 2).isLt
    exact ⟨i, fun a => by fin_cases a; exacts [h 0, h 1, h 2]⟩

/-! ## The arrays at the end -/

/-- The result arrays of the call: codes of the queries. -/
theorem final3 (c : Dev nD) : (dats m 0 c).arrAt 3 cfg0.N = codesOf (n := 8192) (m ((c : Thread nD τ).loc main_arg0)) (by decide) := by
  refine (dats m 0 c).arrAt_eq_of_covers 3 _ covers3 fun t hf y => ?_
  have e := (idx2 t).2.2.2.1
  blk_simp
  rw [after0_3, out3_eq]
  refine blockCodes_val (n := 8192) _ _ _ (grid0.coords t 0).val (lt256 _) (blk0 m c t) y _ ?_ ?_
  · blk_simp [e]
    omega
  · blk_simp [e]

/-- Codes of the keys. -/
theorem final4 (c : Dev nD) : (dats m 0 c).arrAt 4 cfg0.N = codesOf (n := 2048) (m ((c : Thread nD τ).loc main_arg1)) (by decide) := by
  refine (dats m 0 c).arrAt_eq_of_covers 4 _ covers4 fun t hf y => ?_
  have e := (idx2 t).2.2.2.2.1
  blk_simp
  rw [after0_4, out4_eq]
  refine blockCodes_val (n := 2048) _ _ _ (grid0.coords t 0).val (lt256 _) (blk1 m c t) y _ ?_ ?_
  · blk_simp [e]
    omega
  · blk_simp [e]

/-- Codes of the values. -/
theorem final5 (c : Dev nD) : (dats m 0 c).arrAt 5 cfg0.N = codesOf (n := 2048) (m ((c : Thread nD τ).loc main_arg2)) (by decide) := by
  refine (dats m 0 c).arrAt_eq_of_covers 5 _ covers5 fun t hf y => ?_
  have e := (idx2 t).2.2.2.2.2
  blk_simp
  rw [after0_5, out5_eq]
  refine blockCodes_val (n := 2048) _ _ _ (grid0.coords t 0).val (lt256 _) (blk2 m c t) y _ ?_ ?_
  · blk_simp [e]
    omega
  · blk_simp [e]

/-- Scales of the queries, in lanes. -/
theorem final9 (c : Dev nD) : (dats m 0 c).arrAt 9 cfg0.N = lanesOf (n := 8192) (m ((c : Thread nD τ).loc main_arg0)) (by decide) := by
  refine (dats m 0 c).arrAt_eq_of_covers 9 _ covers9 fun t hf y => ?_
  have e := (idx3 t).1
  blk_simp
  rw [after0_9, out9_eq]
  refine blockScales_val (n := 8192) _ _ _ (grid0.coords t 0).val (lt256 _) (blk0 m c t) y _ ?_ ?_
  · blk_simp [e]
  · blk_simp [e]

/-- Scales of the keys, in lanes. -/
theorem final10 (c : Dev nD) : (dats m 0 c).arrAt 10 cfg0.N = lanesOf (n := 2048) (m ((c : Thread nD τ).loc main_arg1)) (by decide) := by
  refine (dats m 0 c).arrAt_eq_of_covers 10 _ covers10 fun t hf y => ?_
  have e := (idx3 t).2.1
  blk_simp
  rw [after0_10, out10_eq]
  refine blockScales_val (n := 2048) _ _ _ (grid0.coords t 0).val (lt256 _) (blk1 m c t) y _ ?_ ?_
  · blk_simp [e]
  · blk_simp [e]

/-- Scales of the values, in lanes. -/
theorem final11 (c : Dev nD) : (dats m 0 c).arrAt 11 cfg0.N = lanesOf (n := 2048) (m ((c : Thread nD τ).loc main_arg2)) (by decide) := by
  refine (dats m 0 c).arrAt_eq_of_covers 11 _ covers11 fun t hf y => ?_
  have e := (idx3 t).2.2
  blk_simp
  rw [after0_11, out11_eq]
  refine blockScales_val (n := 2048) _ _ _ (grid0.coords t 0).val (lt256 _) (blk2 m c t) y _ ?_ ?_
  · blk_simp [e]
  · blk_simp [e]

end Cert.QuantizeIdeal.Hand

end
-- ==== Proof.QuantRun.lean ====
/-
  The run of the quantise call with the host's lines after it: the six results as functions of the arguments.
-/
module

public import proofs.«01_k».proof.Proof.QuantValue

@[expose] public section

set_option maxRecDepth 16384
set_option maxHeartbeats 1000000

noncomputable section

namespace Cert.QuantizeIdeal.Hand

open Cert.QuantizeIdeal Cert.QuantizeIdeal.Gen Cert.Attn
open Idealize.ShloMosaic Idealize.ShloMosaic.TcCoe Idealize.SL.Sem

variable (m : (ℓ : Loc nD τ sig) → Buf (Elt Ideal) ℓ) (ρ : Dev nD → PrngReg)

/-- Lane zero of each head's lanes is its scale. -/
theorem lanesOf_zero {n : ℕ} (H : ℕ) (a : Vec Ideal ⟨2, ![32768, n]⟩ .bf16) (hn hn' : 0 < n) (b : Fin 256) (h : Fin H) (p : h.val * 128 < n) :
    lanesOf a hn (ix3 b 0 ⟨h.val * 128, p⟩) = scalesOf H a hn' (ix2 b h) := by
  unfold lanesOf scalesOf
  refine congrArg (fun k => kScale (expAt a hn b.val k)) ?_
  exact Nat.mul_div_cancel _ (by decide)

/-- The scales of the queries after the host lines. -/
theorem tail3 (c : Dev nD) :
    Pipeline.afterTail₀ cfgs (dats (F := Ideal) m) 0 (V0 m) [hostOps1] c main_v3 = scalesOf (n := 8192) 64 (m ((c : Thread nD τ).loc main_arg0)) (by decide) := by
  funext y
  obtain ⟨b, h, rfl⟩ : ∃ (b : Fin 256) (h : Fin 64), y = ix2 b h := ⟨y 0, y 1, by funext z; fin_cases z <;> rfl⟩
  unfold Pipeline.afterTail₀
  rw [List.flatten_singleton]
  entry_read
  pointwise
  refine (congrFun (Pipeline.withArrays_arr (cfgs 0).spec winFacts0.arr_inj c (V0 m c) (fun w => (dats m 0 c).arrAt w (cfgs 0).N) 9) _).trans ?_
  refine (congrFun (final9 m c) _).trans ?_
  exact lanesOf_zero 64 _ _ _ b h _

/-- The scales of the keys after the host lines. -/
theorem tail6 (c : Dev nD) :
    Pipeline.afterTail₀ cfgs (dats (F := Ideal) m) 0 (V0 m) [hostOps1] c main_v6 = scalesOf (n := 2048) 16 (m ((c : Thread nD τ).loc main_arg1)) (by decide) := by
  funext y
  obtain ⟨b, h, rfl⟩ : ∃ (b : Fin 256) (h : Fin 16), y = ix2 b h := ⟨y 0, y 1, by funext z; fin_cases z <;> rfl⟩
  unfold Pipeline.afterTail₀
  rw [List.flatten_singleton]
  entry_read
  pointwise
  refine (congrFun (Pipeline.withArrays_arr (cfgs 0).spec winFacts0.arr_inj c (V0 m c) (fun w => (dats m 0 c).arrAt w (cfgs 0).N) 10) _).trans ?_
  refine (congrFun (final10 m c) _).trans ?_
  exact lanesOf_zero 16 _ _ _ b h _

/-- The scales of the values after the host lines. -/
theorem tail9 (c : Dev nD) :
    Pipeline.afterTail₀ cfgs (dats (F := Ideal) m) 0 (V0 m) [hostOps1] c main_v9 = scalesOf (n := 2048) 16 (m ((c : Thread nD τ).loc main_arg2)) (by decide) := by
  funext y
  obtain ⟨b, h, rfl⟩ : ∃ (b : Fin 256) (h : Fin 16), y = ix2 b h := ⟨y 0, y 1, by funext z; fin_cases z <;> rfl⟩
  unfold Pipeline.afterTail₀
  rw [List.flatten_singleton]
  entry_read
  pointwise
  refine (congrFun (Pipeline.withArrays_arr (cfgs 0).spec winFacts0.arr_inj c (V0 m c) (fun w => (dats m 0 c).arrAt w (cfgs 0).N) 11) _).trans ?_
  refine (congrFun (final11 m c) _).trans ?_
  exact lanesOf_zero 16 _ _ _ b h _

/-- The run: each operand's codes and scales, and the arguments as launched. -/
theorem runValue : θ_run defs (onTc (τ := τ) (main (F := Ideal))) ⟨m, fun _ => 0, ρ⟩ fun r => ∀ c : Dev nD,
      r.2.mem ((c : Thread nD τ).loc main_v0_0) = codesOf (n := 8192) (m ((c : Thread nD τ).loc main_arg0)) (by decide)
      ∧ r.2.mem ((c : Thread nD τ).loc main_v3) = scalesOf (n := 8192) 64 (m ((c : Thread nD τ).loc main_arg0)) (by decide)
      ∧ r.2.mem ((c : Thread nD τ).loc main_v0_1) = codesOf (n := 2048) (m ((c : Thread nD τ).loc main_arg1)) (by decide)
      ∧ r.2.mem ((c : Thread nD τ).loc main_v6) = scalesOf (n := 2048) 16 (m ((c : Thread nD τ).loc main_arg1)) (by decide)
      ∧ r.2.mem ((c : Thread nD τ).loc main_v0_2) = codesOf (n := 2048) (m ((c : Thread nD τ).loc main_arg2)) (by decide)
      ∧ r.2.mem ((c : Thread nD τ).loc main_v9) = scalesOf (n := 2048) 16 (m ((c : Thread nD τ).loc main_arg2)) (by decide)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).1 3).trans (final3 m c),
      ((h c).2 main_v3 (Pipeline.mem_restRefs_of main_v3 rfl (by decide))).trans (tail3 m c),
      ((h c).1 4).trans (final4 m c),
      ((h c).2 main_v6 (Pipeline.mem_restRefs_of main_v6 rfl (by decide))).trans (tail6 m c),
      ((h c).1 5).trans (final5 m c),
      ((h c).2 main_v9 (Pipeline.mem_restRefs_of main_v9 rfl (by decide))).trans (tail9 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.QuantizeIdeal.Hand

end
-- ==== Proof.Finite.lean ====
/-
  What the precondition gives: every tile's greatest absolute value, over 448, is a real number below 2^120.
-/
module

public import proofs.«01_k».proof.Proof.Gen.Pre_finite
public import proofs.«01_k».proof.Proof.QuantScale
public import Idealize.ShloMosaic.Lib.StableHlo.Predicate

@[expose] public section

set_option maxRecDepth 16384
set_option maxHeartbeats 1000000

noncomputable section

namespace Cert.Attn

open Idealize.ShloMosaic Idealize.ShloMosaic.TcCoe Idealize.SL.Sem
open Cert.Pre_finite

/-- The greatest bf16 number. -/
def big : EReal := Ideal.ofBits .bf16 0x7F7F#16

/-- It is 2^128 - 2^120. -/
theorem big_eq : big = (((2 : ℝ) ^ (128 : ℤ) - (2 : ℝ) ^ (120 : ℤ) : ℝ) : EReal) := by
  unfold big
  have h1 : ((0x7F7F#16).extractLsb' 15 1 == 1#1) = false := by decide
  have h2 : ((0x7F7F#16).extractLsb' 7 8).toNat = 254 := by decide
  have h3 : ((0x7F7F#16).extractLsb' 0 7).toNat = 127 := by decide
  simp only [Ideal.ofBits, Ideal.ieee, Nat.reduceAdd, h1, h2, h3]
  norm_num

variable (x : Vec Ideal S32768x8192 .bf16) (k v : Vec Ideal S32768x2048 .bf16)

/-- The precondition in the columns of the queries. -/
theorem fn_x (i : Fin 32768) (j : Fin 8192) (p : j.val < 12288) :
    fn (F := Ideal) x k v (ix2 i ⟨j.val, p⟩) = BitVec.ofBool (decide (eabs (x (ix2 i j)) ≤ big)) := by
  pointwise [fn]
  rfl

/-- The precondition in the columns of the keys. -/
theorem fn_k (i : Fin 32768) (j : Fin 2048) (p : 8192 + j.val < 12288) :
    fn (F := Ideal) x k v (ix2 i ⟨8192 + j.val, p⟩) = BitVec.ofBool (decide (eabs (k (ix2 i j)) ≤ big)) := by
  pointwise [fn]
  rfl

/-- The precondition in the columns of the values. -/
theorem fn_v (i : Fin 32768) (j : Fin 2048) (p : 10240 + j.val < 12288) :
    fn (F := Ideal) x k v (ix2 i ⟨10240 + j.val, p⟩) = BitVec.ofBool (decide (eabs (v (ix2 i j)) ≤ big)) := by
  pointwise [fn]
  have e : (⟨10240 + j.val - 8192 - 2048, by omega⟩ : Fin 2048) = j := Fin.ext (by show 10240 + j.val - 8192 - 2048 = j.val; omega)
  rw [dif_neg (by omega), dif_neg (by omega), e]
  rfl

/-- Where the precondition holds, every entry is at most the greatest bf16 number in absolute value. -/
theorem entries_finite (H : fn (F := Ideal) x k v = fun _ => 1#1) :
    (∀ i j, eabs (x (ix2 i j)) ≤ big) ∧ (∀ i j, eabs (k (ix2 i j)) ≤ big) ∧ (∀ i j, eabs (v (ix2 i j)) ≤ big) := by
  have one : ∀ {p : Prop} [Decidable p], BitVec.ofBool (decide p) = 1#1 → p := fun h =>
    of_decide_eq_true ((WordArith.ofBool_eq_one_iff _).mp h)
  refine ⟨fun i j => one ?_, fun i j => one ?_, fun i j => one ?_⟩
  · exact (fn_x x k v i j (by omega)).symm.trans (congrFun H _)
  · exact (fn_k x k v i j (by omega)).symm.trans (congrFun H _)
  · exact (fn_v x k v i j (by omega)).symm.trans (congrFun H _)

/-- A tile of entries that are at most the greatest bf16 number: its maximum, over 448. -/
theorem tileMax_real {n : ℕ} (a : Vec Ideal ⟨2, ![32768, n]⟩ .bf16) (hn : 0 < n) (h : ∀ i j, eabs (a (ix2 i j)) ≤ big) (b c : ℕ) :
    ∃ y : ℝ, tileMax a hn b c * Ideal.ofBits .f32 991054117#32 = (y : EReal) ∧ y < (2 : ℝ) ^ (120 : ℤ) := by
  have h1 : tileMax a hn b c ≤ big := tmax_le _ _ fun _ _ => h _ _
  have h0 : (0 : EReal) ≤ tileMax a hn b c := by
    refine le_trans ?_ (le_tmax _ 0 0)
    unfold eabs
    rcases le_total (0 : EReal) (a (ix2 ⟨(128 * b + (0 : Fin 128).val) % 32768, Nat.mod_lt _ (by omega)⟩ ⟨(128 * c + (0 : Fin 128).val) % n, Nat.mod_lt _ hn⟩)) with h | h
    · exact h.trans (le_max_left _ _)
    · exact (EReal.neg_nonneg.mpr h).trans (le_max_right _ _)
  have hT : tileMax a hn b c ≠ ⊤ := fun e => by rw [e, big_eq] at h1; exact absurd h1 (not_le.mpr (EReal.coe_lt_top _))
  have hB : tileMax a hn b c ≠ ⊥ := fun e => by rw [e] at h0; exact absurd h0 (not_le.mpr (EReal.bot_lt_zero))
  obtain ⟨z, hz⟩ : ∃ z : ℝ, tileMax a hn b c = (z : EReal) := ⟨_, (EReal.coe_toReal hT hB).symm⟩
  rw [hz, big_eq, EReal.coe_le_coe_iff] at h1
  refine ⟨z * c448, ?_, ?_⟩
  · rw [hz, ofBits_c448, ← EReal.coe_mul]
  · have e1 : (2 : ℝ) ^ (128 : ℤ) = 256 * (2 : ℝ) ^ (120 : ℤ) := by norm_num
    have e3 : (0 : ℝ) < (2 : ℝ) ^ (120 : ℤ) := by positivity
    have hz' : z < 256 * (2 : ℝ) ^ (120 : ℤ) := by linarith
    have : c448 ≤ 1 / 256 := by unfold c448; norm_num
    have hc : (0 : ℝ) < c448 := by unfold c448; norm_num
    calc z * c448 < 256 * (2 : ℝ) ^ (120 : ℤ) * c448 := mul_lt_mul_of_pos_right hz' hc
      _ ≤ 256 * (2 : ℝ) ^ (120 : ℤ) * (1 / 256) := mul_le_mul_of_nonneg_left this (by positivity)
      _ = (2 : ℝ) ^ (120 : ℤ) := by ring

end Cert.Attn

end
-- ==== Proof.BlocksValue.lean ====
/-
  The results of the reference quantiser on the extended reals: where its entries are finite, the same codes and scales as the
  kernel's. The queries have 64 heads and the keys and values 16, so each payload is read at two shapes.
-/
module

public import proofs.«01_k».proof.Proof.Gen.BlocksIdeal.Value
public import proofs.«01_k».proof.Proof.Finite

@[expose] public section

set_option maxRecDepth 16384
set_option maxHeartbeats 1000000

noncomputable section

namespace Cert.BlocksIdeal.Hand

open Cert.BlocksIdeal Cert.BlocksIdeal.Gen Cert.Attn
open Idealize.ShloMosaic Idealize.ShloMosaic.TcCoe Idealize.SL.Sem

/-- The exponent of tile `(b, h)` as a number. -/
def expB {n : ℕ} (a : Vec Ideal ⟨2, ![32768, n]⟩ .bf16) (hn : 0 < n) (b h : ℕ) : EReal :=
  ((((eB (tileMax a hn b h * Ideal.ofBits .f32 991054117#32)).toInt : ℤ) : ℝ) : EReal)

/-- The maximum of a tile whose rows and lanes are counted from its corner. -/
theorem tileMax_corner {n : ℕ} (a : Vec Ideal ⟨2, ![32768, n]⟩ .bf16) (hn : 0 < n) (b h : ℕ)
    (hb : ∀ r : Fin 128, b * 128 + r.val < 32768) (hh : ∀ d : Fin 128, h * 128 + d.val < n) :
    Finset.fold max (Ideal.ofBits .f32 4286578688#32)
      (fun d : Fin 128 => Finset.fold max (Ideal.ofBits .f32 4286578688#32)
        (fun r : Fin 128 => FloatOps.absf (F := Ideal) (φ := .f32) (a (ix2 ⟨b * 128 + r.val, hb r⟩ ⟨h * 128 + d.val, hh d⟩))) Finset.univ) Finset.univ
      = tileMax a hn b h := by
  rw [ofBits_negInf]
  unfold tileMax tmax
  refine congrArg (fun f => Finset.fold max ⊥ f Finset.univ) (funext fun d => ?_)
  refine congrArg (fun f => Finset.fold max ⊥ f Finset.univ) (funext fun r => ?_)
  rw [absf_eq]
  refine congrArg (fun z => eabs (a z)) ?_
  have e1 : (⟨b * 128 + r.val, hb r⟩ : Fin 32768) = ⟨(128 * b + r.val) % 32768, Nat.mod_lt _ (by omega)⟩ :=
    Fin.ext (by have := hb r; show b * 128 + r.val = (128 * b + r.val) % 32768; rw [Nat.mod_eq_of_lt (by omega)]; omega)
  have e2 : (⟨h * 128 + d.val, hh d⟩ : Fin n) = ⟨(128 * h + d.val) % n, Nat.mod_lt _ hn⟩ :=
    Fin.ext (by have := hh d; show h * 128 + d.val = (128 * h + d.val) % n; rw [Nat.mod_eq_of_lt (by omega)]; omega)
  rw [e1, e2]

/-- The exponent as the reference prints it. -/
def printed (y : EReal) : EReal :=
  FloatOps.sitofp (F := Ideal) FTy.f32 (if y < Ideal.ofBits FTy.f32 8388608#32 then 0#32 else
      IntOp.subi (Finset.fold IntOp.addi (0#32)
        (fun x : Fin 254 => BitVec.setWidth 32 (BitVec.ofBool (decide (FloatOps.exp2 (F := Ideal) (φ := .f32) (FloatOps.sitofp (F := Ideal) FTy.f32 (IntOp.subi (BitVec.ofNat 32 x.val) 126#32)) ≤ y))))
        Finset.univ) 126#32)

/-- It is the exponent `eB`. -/
theorem printed_eq (y : EReal) : printed y = ((((eB y).toInt : ℤ) : ℝ) : EReal) := by
  unfold printed eB Scalar.select
  by_cases h : y < Ideal.ofBits FTy.f32 8388608#32
  · rw [if_pos h, if_pos (by rw [decide_eq_true h]; rfl)]; rfl
  · rw [if_neg h, if_neg (by rw [decide_eq_false h]; decide)]; rfl

/-- A code by `exp2` is the kernel's code. -/
theorem code_agrees {n : ℕ} (a : Vec Ideal ⟨2, ![32768, n]⟩ .bf16) (hn : 0 < n) (hf : ∀ i j, eabs (a (ix2 i j)) ≤ big) (b h : ℕ) (x : EReal) :
    min (Ideal.ofBits .f32 1138753536#32) (max (Ideal.ofBits .f32 3286237184#32) (x * FloatOps.exp2 (F := Ideal) (φ := .f32) ((0 : EReal) - expB a hn b h)))
      = kCode x (expAt a hn b h) := by
  obtain ⟨y, hy, hlt⟩ := tileMax_real a hn hf b h
  unfold kCode expAt expB
  rw [hy, (scales_agree y hlt).2]
  rfl

/-- A scale by `exp2` is the kernel's scale. -/
theorem scale_agrees {n : ℕ} (a : Vec Ideal ⟨2, ![32768, n]⟩ .bf16) (hn : 0 < n) (hf : ∀ i j, eabs (a (ix2 i j)) ≤ big) (b h : ℕ) :
    FloatOps.exp2 (F := Ideal) (φ := .f32) (expB a hn b h) = kScale (expAt a hn b h) := by
  obtain ⟨y, hy, hlt⟩ := tileMax_real a hn hf b h
  unfold expAt expB
  rw [hy, (scales_agree y hlt).1]
  rfl

/-- The codes at the place in tile `(b, h)` with row `r` and lane `d`. -/
theorem codesOf_corner {n : ℕ} (a : Vec Ideal ⟨2, ![32768, n]⟩ .bf16) (hn : 0 < n) (b h : ℕ) (r d : Fin 128) (p : b * 128 + r.val < 32768) (q : h * 128 + d.val < n) :
    codesOf a hn (ix2 ⟨b * 128 + r.val, p⟩ ⟨h * 128 + d.val, q⟩) = kCode (a (ix2 ⟨b * 128 + r.val, p⟩ ⟨h * 128 + d.val, q⟩)) (expAt a hn b h) := by
  have e : codesOf a hn (ix2 ⟨b * 128 + r.val, p⟩ ⟨h * 128 + d.val, q⟩)
      = kCode (a (ix2 ⟨b * 128 + r.val, p⟩ ⟨h * 128 + d.val, q⟩)) (expAt a hn ((b * 128 + r.val) / 128) ((h * 128 + d.val) / 128)) := rfl
  have e1 : (b * 128 + r.val) / 128 = b := by omega
  have e2 : (h * 128 + d.val) / 128 = h := by omega
  rw [e, e1, e2]

/-- Every index of a matrix lies in a tile. -/
theorem corner {n H : ℕ} (hH : n = H * 128) (y : (⟨2, ![32768, n]⟩ : Shape).Idx) : ∃ (b : Fin 256) (h : Fin H) (r d : Fin 128)
    (p : b.val * 128 + r.val < 32768) (q : h.val * 128 + d.val < n), y = ix2 ⟨b.val * 128 + r.val, p⟩ ⟨h.val * 128 + d.val, q⟩ := by
  have h0 : (y 0).val < 32768 := (y 0).isLt
  have h1 : (y 1).val < n := (y 1).isLt
  refine ⟨⟨(y 0).val / 128, by omega⟩, ⟨(y 1).val / 128, by omega⟩, ⟨(y 0).val % 128, by omega⟩, ⟨(y 1).val % 128, by omega⟩, ?_, ?_, ?_⟩
  · show (y 0).val / 128 * 128 + (y 0).val % 128 < 32768; omega
  · show (y 1).val / 128 * 128 + (y 1).val % 128 < n; omega
  · funext z
    fin_cases z
    · exact Fin.ext (show (y 0).val = (y 0).val / 128 * 128 + (y 0).val % 128 by omega)
    · exact Fin.ext (show (y 1).val = (y 1).val / 128 * 128 + (y 1).val % 128 by omega)

/-! ## The queries -/

/-- An entry of the queries by block, row, head and lane. -/
theorem pay1_apply (a : Vec Ideal S32768x8192 .bf16) (b : Fin 256) (h : Fin 64) (r d : Fin 128) :
    k0_pay1 (F := Ideal) a (ix4 b r h d) = a (ix2 ⟨b.val * 128 + r.val, by omega⟩ ⟨h.val * 128 + d.val, by omega⟩) := by
  pointwise [k0_pay1]

/-- The exponent of tile `(b, h)`. -/
theorem pay2_apply (a : Vec Ideal S32768x8192 .bf16) (b : Fin 256) (h : Fin 64) :
    k0_pay2 (F := Ideal) a (ix4 b 0 h 0) = expB (n := 8192) a (by decide) b.val h.val := by
  unfold expB
  rw [← printed_eq, ← tileMax_corner (n := 8192) a (by decide) b.val h.val (fun r => by omega) (fun d => by omega)]
  generalize hy : Finset.fold max (Ideal.ofBits .f32 4286578688#32)
      (fun d : Fin 128 => Finset.fold max (Ideal.ofBits .f32 4286578688#32)
        (fun r : Fin 128 => FloatOps.absf (F := Ideal) (φ := .f32) (a (ix2 ⟨b * 128 + r.val, _⟩ ⟨h * 128 + d.val, _⟩))) Finset.univ) Finset.univ = y
  pointwise [k0_pay2]
  simp only [pay1_apply]
  rw [hy]
  unfold printed
  with_reducible rfl

/-- The codes of the queries. -/
theorem codes8192 (a : Vec Ideal S32768x8192 .bf16) (hf : ∀ i j, eabs (a (ix2 i j)) ≤ big) :
    k0_pay3 (F := Ideal) a = codesOf (n := 8192) a (by decide) := by
  funext y
  obtain ⟨b, h, r, d, p, q, rfl⟩ := corner (n := 8192) (H := 64) rfl y
  refine Eq.trans ?_ ((code_agrees (n := 8192) a (by decide) hf b.val h.val _).trans (codesOf_corner (n := 8192) a (by decide) b.val h.val r d p q).symm)
  rw [← pay2_apply]
  pointwise [k0_pay3, k0_pay1]

/-- The scales of the queries. -/
theorem scales8192 (a : Vec Ideal S32768x8192 .bf16) (hf : ∀ i j, eabs (a (ix2 i j)) ≤ big) :
    k0_pay4 (F := Ideal) a = scalesOf (n := 8192) 64 a (by decide) := by
  funext y
  obtain ⟨b, h, rfl⟩ : ∃ (b : Fin 256) (h : Fin 64), y = ix2 b h := ⟨y 0, y 1, by funext z; fin_cases z <;> rfl⟩
  refine Eq.trans ?_ (scale_agrees (n := 8192) a (by decide) hf b.val h.val)
  rw [← pay2_apply]
  pointwise [k0_pay4]

/-! ## The keys and the values -/

/-- An entry of the keys or values by block, row, head and lane. -/
theorem pay5_apply (a : Vec Ideal S32768x2048 .bf16) (b : Fin 256) (h : Fin 16) (r d : Fin 128) :
    k0_pay5 (F := Ideal) a (ix4 b r h d) = a (ix2 ⟨b.val * 128 + r.val, by omega⟩ ⟨h.val * 128 + d.val, by omega⟩) := by
  pointwise [k0_pay5]

/-- The exponent of tile `(b, h)`. -/
theorem pay6_apply (a : Vec Ideal S32768x2048 .bf16) (b : Fin 256) (h : Fin 16) :
    k0_pay6 (F := Ideal) a (ix4 b 0 h 0) = expB (n := 2048) a (by decide) b.val h.val := by
  unfold expB
  rw [← printed_eq, ← tileMax_corner (n := 2048) a (by decide) b.val h.val (fun r => by omega) (fun d => by omega)]
  generalize hy : Finset.fold max (Ideal.ofBits .f32 4286578688#32)
      (fun d : Fin 128 => Finset.fold max (Ideal.ofBits .f32 4286578688#32)
        (fun r : Fin 128 => FloatOps.absf (F := Ideal) (φ := .f32) (a (ix2 ⟨b * 128 + r.val, _⟩ ⟨h * 128 + d.val, _⟩))) Finset.univ) Finset.univ = y
  pointwise [k0_pay6]
  simp only [pay5_apply]
  rw [hy]
  unfold printed
  with_reducible rfl

/-- The codes of the keys or values. -/
theorem codes2048 (a : Vec Ideal S32768x2048 .bf16) (hf : ∀ i j, eabs (a (ix2 i j)) ≤ big) :
    k0_pay7 (F := Ideal) a = codesOf (n := 2048) a (by decide) := by
  funext y
  obtain ⟨b, h, r, d, p, q, rfl⟩ := corner (n := 2048) (H := 16) rfl y
  refine Eq.trans ?_ ((code_agrees (n := 2048) a (by decide) hf b.val h.val _).trans (codesOf_corner (n := 2048) a (by decide) b.val h.val r d p q).symm)
  rw [← pay6_apply]
  pointwise [k0_pay7, k0_pay5]

/-- The scales of the keys or values. -/
theorem scales2048 (a : Vec Ideal S32768x2048 .bf16) (hf : ∀ i j, eabs (a (ix2 i j)) ≤ big) :
    k0_pay8 (F := Ideal) a = scalesOf (n := 2048) 16 a (by decide) := by
  funext y
  obtain ⟨b, h, rfl⟩ : ∃ (b : Fin 256) (h : Fin 16), y = ix2 b h := ⟨y 0, y 1, by funext z; fin_cases z <;> rfl⟩
  refine Eq.trans ?_ (scale_agrees (n := 2048) a (by decide) hf b.val h.val)
  rw [← pay6_apply]
  pointwise [k0_pay8]

/-! ## The run -/

variable (m : (ℓ : Loc nD τ sig) → Buf (Elt Ideal) ℓ) (ρ : Dev nD → PrngReg)

/-- The run, from finite arguments: each operand's codes and scales, and the arguments as launched. -/
theorem runValue (hf : ∀ c : Dev nD, (∀ i j, eabs (m ((c : Thread nD τ).loc main_arg0) (ix2 i j)) ≤ big)
      ∧ (∀ i j, eabs (m ((c : Thread nD τ).loc main_arg1) (ix2 i j)) ≤ big) ∧ (∀ i j, eabs (m ((c : Thread nD τ).loc main_arg2) (ix2 i j)) ≤ big)) :
    θ_run defs (onTc (τ := τ) (main (F := Ideal))) ⟨m, fun _ => 0, ρ⟩ fun r => ∀ c : Dev nD,
      r.2.mem ((c : Thread nD τ).loc main_v0_0) = codesOf (n := 8192) (m ((c : Thread nD τ).loc main_arg0)) (by decide)
      ∧ r.2.mem ((c : Thread nD τ).loc main_v0_1) = scalesOf (n := 8192) 64 (m ((c : Thread nD τ).loc main_arg0)) (by decide)
      ∧ r.2.mem ((c : Thread nD τ).loc main_v0_2) = codesOf (n := 2048) (m ((c : Thread nD τ).loc main_arg1)) (by decide)
      ∧ r.2.mem ((c : Thread nD τ).loc main_v0_3) = scalesOf (n := 2048) 16 (m ((c : Thread nD τ).loc main_arg1)) (by decide)
      ∧ r.2.mem ((c : Thread nD τ).loc main_v0_4) = codesOf (n := 2048) (m ((c : Thread nD τ).loc main_arg2)) (by decide)
      ∧ r.2.mem ((c : Thread nD τ).loc main_v0_5) = scalesOf (n := 2048) 16 (m ((c : Thread nD τ).loc main_arg2)) (by decide)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => by
    obtain ⟨f0, f1, f2⟩ := hf c
    obtain ⟨r0, r1, r2, r3, r4, r5, kept⟩ := h c
    exact ⟨r0.trans (codes8192 _ f0), r1.trans (scales8192 _ f0), r2.trans (codes2048 _ f1), r3.trans (scales2048 _ f1),
      r4.trans (codes2048 _ f2), r5.trans (scales2048 _ f2), kept⟩)
    (Cert.BlocksIdeal.Value.run m ρ)

end Cert.BlocksIdeal.Hand

end
-- ==== Proof.QuantClaim.lean ====
/-
  The algebraic claim about the quantise call: from finite arguments both programs end with `codesOf` and `scalesOf`
  (Proof/QuantScale.lean) of each operand.
-/
module

public import proofs.«01_k».proof.Defs
public import proofs.«01_k».proof.Proof.QuantRun
public import proofs.«01_k».proof.Proof.BlocksValue

@[expose] public section

noncomputable section

namespace Cert.Proof

open Idealize.ShloMosaic Idealize.SL.Sem Cert.Attn

/-- Kernel and reference quantise finite arguments to the same codes and scales. -/
theorem quantize_algebraic : Cert.algebraic_QuantizeIdeal_BlocksIdeal_pre_finite (hQuantizeIdeal := Cert.QuantizeIdeal.Gen.facts)
    (hBlocksIdeal := Cert.BlocksIdeal.Gen.facts) (hPre_finite := Cert.Pre_finite.Gen.facts) := by
  intro m ρ m' ρ' hpre hag
  refine ⟨fun c => codesOf (n := 8192) (m ((c.tc : Thread QuantizeIdeal.nD QuantizeIdeal.τ).loc QuantizeIdeal.main_arg0)) (by decide),
    fun c => scalesOf (n := 8192) 64 (m ((c.tc : Thread QuantizeIdeal.nD QuantizeIdeal.τ).loc QuantizeIdeal.main_arg0)) (by decide),
    fun c => codesOf (n := 2048) (m ((c.tc : Thread QuantizeIdeal.nD QuantizeIdeal.τ).loc QuantizeIdeal.main_arg1)) (by decide),
    fun c => scalesOf (n := 2048) 16 (m ((c.tc : Thread QuantizeIdeal.nD QuantizeIdeal.τ).loc QuantizeIdeal.main_arg1)) (by decide),
    fun c => codesOf (n := 2048) (m ((c.tc : Thread QuantizeIdeal.nD QuantizeIdeal.τ).loc QuantizeIdeal.main_arg2)) (by decide),
    fun c => scalesOf (n := 2048) 16 (m ((c.tc : Thread QuantizeIdeal.nD QuantizeIdeal.τ).loc QuantizeIdeal.main_arg2)) (by decide),
    Cert.QuantizeIdeal.Hand.runValue m ρ, ?_⟩
  refine (θ_run _ _ _).mono (fun r h c => ?_) (Cert.BlocksIdeal.Hand.runValue m' ρ' fun c => ?_)
  · obtain ⟨a0, a1, a2⟩ := hag c
    have hc := h c
    rw [a0, a1, a2] at hc
    rw [a0, a1, a2]
    exact hc
  · obtain ⟨a0, a1, a2⟩ := hag c
    have hb := entries_finite _ _ _ (hpre c)
    refine ⟨fun i j => ?_, fun i j => ?_, fun i j => ?_⟩
    · rw [show m' ((c.tc : Thread BlocksIdeal.nD BlocksIdeal.τ).loc BlocksIdeal.main_arg0) = _ from a0]; exact hb.1 i j
    · rw [show m' ((c.tc : Thread BlocksIdeal.nD BlocksIdeal.τ).loc BlocksIdeal.main_arg1) = _ from a1]; exact hb.2.1 i j
    · rw [show m' ((c.tc : Thread BlocksIdeal.nD BlocksIdeal.τ).loc BlocksIdeal.main_arg2) = _ from a2]; exact hb.2.2 i j

end Cert.Proof

end
-- ==== Proof.lean ====
/-
  The claims about the two calls, put together: for each the three frames, the idealization, and the algebraic claim.
  Attention: both programs run, and at the end each result array is `Cert.Attn.result` (Proof/Spec.lean) of the same arguments.
  Quantising: Proof/QuantClaim.lean.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.RefValue
public import proofs.«01_k».proof.Proof.KernelValue
public import proofs.«01_k».proof.Proof.Gen.Quantize
public import proofs.«01_k».proof.Proof.Gen.Quantize.Frame
public import proofs.«01_k».proof.Proof.QuantClaim

@[expose] public section

noncomputable section

namespace Cert.Proof

open Idealize.ShloMosaic Idealize.SL.Sem

theorem algebraic : Cert.algebraic_KernelIdeal_ReferenceIdeal (hKernelIdeal := Cert.KernelIdeal.Gen.facts) (hReferenceIdeal := Cert.ReferenceIdeal.Gen.facts) := by
  intro m ρ m' ρ' _ hag
  have hG : ∀ c, Cert.ReferenceIdeal.Hand.G m' c = Cert.KernelIdeal.Hand.G m c := by
    intro c
    obtain ⟨a0, a1, a2, a3, a4, a5⟩ := hag c
    unfold Cert.ReferenceIdeal.Hand.G Cert.KernelIdeal.Hand.G
    rw [a0, a1, a2, a3, a4, a5]
  exact ⟨fun c => Cert.KernelIdeal.Hand.G m c, Cert.KernelIdeal.Hand.runValue m ρ,
    (θ_run _ _ _).mono (fun _ h c => ⟨(h c).1.trans (hG c), (h c).2⟩) (Cert.ReferenceIdeal.Hand.runValue m' ρ')⟩

theorem claim : Cert.Claim := ⟨Cert.Kernel.Gen.facts, Cert.KernelIdeal.Gen.facts, Cert.ReferenceIdeal.Gen.facts,
  Cert.Quantize.Gen.facts, Cert.QuantizeIdeal.Gen.facts, Cert.BlocksIdeal.Gen.facts, Cert.Pre_finite.Gen.facts,
  fun m ρ _ => Cert.Kernel.Gen.frame m ρ,
  fun m ρ _ => Cert.KernelIdeal.Gen.frame m ρ,
  fun m ρ _ => Cert.ReferenceIdeal.Hand.frame m ρ,
  fun m ρ _ => Cert.Quantize.Gen.frame m ρ,
  fun m ρ _ => Cert.QuantizeIdeal.Gen.frame m ρ,
  fun m ρ _ => Cert.QuantizeIdeal.Gen.frame m ρ,
  fun m ρ _ => Cert.BlocksIdeal.Gen.frame m ρ,
  fun m ρ _ => Cert.BlocksIdeal.Gen.frame m ρ,
  True.intro,
  algebraic,
  True.intro,
  quantize_algebraic⟩

end Cert.Proof

end
